-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13)
      ∧ r.2.mem ((c.tc : Thread Cert.Reference.nD Cert.Reference.τ).loc Cert.Reference.main_arg14) = m ((c.tc : Thread Cert.Reference.nD Cert.Reference.τ).loc Cert.Reference.main_arg14)
      ∧ r.2.mem ((c.tc : Thread Cert.Reference.nD Cert.Reference.τ).loc Cert.Reference.main_arg15) = m ((c.tc : Thread Cert.Reference.nD Cert.Reference.τ).loc Cert.Reference.main_arg15)
      ∧ r.2.mem ((c.tc : Thread Cert.Reference.nD Cert.Reference.τ).loc Cert.Reference.main_arg16) = m ((c.tc : Thread Cert.Reference.nD Cert.Reference.τ).loc Cert.Reference.main_arg16)
      ∧ r.2.mem ((c.tc : Thread Cert.Reference.nD Cert.Reference.τ).loc Cert.Reference.main_arg17) = m ((c.tc : Thread Cert.Reference.nD Cert.Reference.τ).loc Cert.Reference.main_arg17)
      ∧ r.2.mem ((c.tc : Thread Cert.Reference.nD Cert.Reference.τ).loc Cert.Reference.main_arg18) = m ((c.tc : Thread Cert.Reference.nD Cert.Reference.τ).loc Cert.Reference.main_arg18)
      ∧ r.2.mem ((c.tc : Thread Cert.Reference.nD Cert.Reference.τ).loc Cert.Reference.main_arg19) = m ((c.tc : Thread Cert.Reference.nD Cert.Reference.τ).loc Cert.Reference.main_arg19)
      ∧ r.2.mem ((c.tc : Thread Cert.Reference.nD Cert.Reference.τ).loc Cert.Reference.main_arg20) = m ((c.tc : Thread Cert.Reference.nD Cert.Reference.τ).loc Cert.Reference.main_arg20)
      ∧ r.2.mem ((c.tc : Thread Cert.Reference.nD Cert.Reference.τ).loc Cert.Reference.main_arg21) = m ((c.tc : Thread Cert.Reference.nD Cert.Reference.τ).loc Cert.Reference.main_arg21))
      ∧ r.2.sem = fun _ => 0)

def preserves_Kernel_KernelIdeal : Prop :=
  IdealRules.named_const.Statement Cert.KernelIdeal.κ "scale" .f32 0x3E785B42#32 (((Real.sqrt 17)⁻¹ : ℝ) : EReal)
  ∧ IdealRules.named_const.Statement Cert.KernelIdeal.κ "far" .f32 0x7149F2CA#32 ⊤
  ∧ IdealRules.named_const.Statement Cert.KernelIdeal.κ "thresh_sq" .f32 0x3C23D70A#32 ((1 / 100 : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S128x128 : Shape := ⟨2, ![128, 128]⟩
abbrev S65536x128 : Shape := ⟨2, ![65536, 128]⟩
abbrev S65536 : Shape := ⟨1, ![65536]⟩
abbrev S128 : Shape := ⟨1, ![128]⟩
abbrev S128x136 : Shape := ⟨2, ![128, 136]⟩
abbrev S136 : Shape := ⟨1, ![136]⟩
abbrev S136x136 : Shape := ⟨2, ![136, 136]⟩
abbrev S136x128 : Shape := ⟨2, ![136, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S128 : S_.BroadcastsInDim S128 (![] : Fin 0 → Fin S128.rank)
  reducesTo_S128_S_d0 : S128.ReducesTo [0] S_
  bcast_S_S128x136 : S_.BroadcastsInDim S128x136 (![] : Fin 0 → Fin S128x136.rank)
  reducesTo_S128x136_S_d0_1 : S128x136.ReducesTo [0, 1] S_
  bcast_S_S136 : S_.BroadcastsInDim S136 (![] : Fin 0 → Fin S136.rank)
  reducesTo_S136_S_d0 : S136.ReducesTo [0] S_
  bcast_S_S136x136 : S_.BroadcastsInDim S136x136 (![] : Fin 0 → Fin S136x136.rank)
  reducesTo_S136x136_S_d0_1 : S136x136.ReducesTo [0, 1] S_
  bcast_S_S136x128 : S_.BroadcastsInDim S136x128 (![] : Fin 0 → Fin S136x128.rank)
  reducesTo_S136x128_S_d0_1 : S136x128.ReducesTo [0, 1] S_

variable [Facts]

def fn_part5 {F : FTy → Type} [FloatOps F] (main_v83 : IVec S_ 1) (main_v84 : FVec F S136x128 .f32) (main_cst_32 : FVec F S_ .f32) : IVec S_ 1 :=
  let main_v85 : FVec F S136x128 .f32 := broadcastInDim S136x128 ![] bcast_S_S136x128 main_cst_32
  let main_v86 : IVec S136x128 1 := cmpf .olt main_v84 main_v85
  let main_c_33 : IVec S_ 1 := constantI S_ 1 1#1
  let main_v87 : IVec S_ 1 := (fun x v => Host.reduce IntOp.andi x v reducesTo_S136x128_S_d0_1 h_S_) main_v86 main_c_33
  let main_v88 : IVec S_ 1 := andi main_v83 main_v87
  main_v88

def fn_part4 {F : FTy → Type} [FloatOps F] (main_arg17 : FVec F S136 .f32) (main_arg18 : FVec F S136x136 .f32) (main_arg19 : FVec F S136 .f32) (main_arg20 : FVec F S136x128 .f32) (main_v63 : IVec S_ 1) (main_v67 : IVec S_ 1) : IVec S_ 1 :=
  let main_v68 : IVec S_ 1 := andi main_v63 main_v67
  let main_v69 : FVec F S136 .f32 := Host.absf main_arg17
  let main_cst_26 : FVec F S_ .f32 := constant S_ .f32 0x7F800000#32
  let main_v70 : FVec F S136 .f32 := broadcastInDim S136 ![] bcast_S_S136 main_cst_26
  let main_v71 : IVec S136 1 := cmpf .olt main_v69 main_v70
  let main_c_27 : IVec S_ 1 := constantI S_ 1 1#1
  let main_v72 : IVec S_ 1 := (fun x v => Host.reduce IntOp.andi x v reducesTo_S136_S_d0 h_S_) main_v71 main_c_27
  let main_v73 : IVec S_ 1 := andi main_v68 main_v72
  let main_v74 : FVec F S136x136 .f32 := Host.absf main_arg18
  let main_cst_28 : FVec F S_ .f32 := constant S_ .f32 0x7F800000#32
  let main_v75 : FVec F S136x136 .f32 := broadcastInDim S136x136 ![] bcast_S_S136x136 main_cst_28
  let main_v76 : IVec S136x136 1 := cmpf .olt main_v74 main_v75
  let main_c_29 : IVec S_ 1 := constantI S_ 1 1#1
  let main_v77 : IVec S_ 1 := (fun x v => Host.reduce IntOp.andi x v reducesTo_S136x136_S_d0_1 h_S_) main_v76 main_c_29
  let main_v78 : IVec S_ 1 := andi main_v73 main_v77
  let main_v79 : FVec F S136 .f32 := Host.absf main_arg19
  let main_cst_30 : FVec F S_ .f32 := constant S_ .f32 0x7F800000#32
  let main_v80 : FVec F S136 .f32 := broadcastInDim S136 ![] bcast_S_S136 main_cst_30
  let main_v81 : IVec S136 1 := cmpf .olt main_v79 main_v80
  let main_c_31 : IVec S_ 1 := constantI S_ 1 1#1
  let main_v82 : IVec S_ 1 := (fun x v => Host.reduce IntOp.andi x v reducesTo_S136_S_d0 h_S_) main_v81 main_c_31
  let main_v83 : IVec S_ 1 := andi main_v78 main_v82
  let main_v84 : FVec F S136x128 .f32 := Host.absf main_arg20
  let main_cst_32 : FVec F S_ .f32 := constant S_ .f32 0x7F800000#32
  fn_part5 (F := F) main_v83 main_v84 main_cst_32

def fn_part3 {F : FTy → Type} [FloatOps F] (main_arg14 : FVec F S136x136 .f32) (main_arg15 : FVec F S136 .f32) (main_arg16 : FVec F S136x136 .f32) (main_arg17 : FVec F S136 .f32) (main_arg18 : FVec F S136x136 .f32) (main_arg19 : FVec F S136 .f32) (main_arg20 : FVec F S136x128 .f32) (main_v48 : IVec S_ 1) (main_v49 : FVec F S136 .f32) (main_v50 : FVec F S136 .f32) : IVec S_ 1 :=
  let main_v51 : IVec S136 1 := cmpf .olt main_v49 main_v50
  let main_c_19 : IVec S_ 1 := constantI S_ 1 1#1
  let main_v52 : IVec S_ 1 := (fun x v => Host.reduce IntOp.andi x v reducesTo_S136_S_d0 h_S_) main_v51 main_c_19
  let main_v53 : IVec S_ 1 := andi main_v48 main_v52
  let main_v54 : FVec F S136x136 .f32 := Host.absf main_arg14
  let main_cst_20 : FVec F S_ .f32 := constant S_ .f32 0x7F800000#32
  let main_v55 : FVec F S136x136 .f32 := broadcastInDim S136x136 ![] bcast_S_S136x136 main_cst_20
  let main_v56 : IVec S136x136 1 := cmpf .olt main_v54 main_v55
  let main_c_21 : IVec S_ 1 := constantI S_ 1 1#1
  let main_v57 : IVec S_ 1 := (fun x v => Host.reduce IntOp.andi x v reducesTo_S136x136_S_d0_1 h_S_) main_v56 main_c_21
  let main_v58 : IVec S_ 1 := andi main_v53 main_v57
  let main_v59 : FVec F S136 .f32 := Host.absf main_arg15
  let main_cst_22 : FVec F S_ .f32 := constant S_ .f32 0x7F800000#32
  let main_v60 : FVec F S136 .f32 := broadcastInDim S136 ![] bcast_S_S136 main_cst_22
  let main_v61 : IVec S136 1 := cmpf .olt main_v59 main_v60
  let main_c_23 : IVec S_ 1 := constantI S_ 1 1#1
  let main_v62 : IVec S_ 1 := (fun x v => Host.reduce IntOp.andi x v reducesTo_S136_S_d0 h_S_) main_v61 main_c_23
  let main_v63 : IVec S_ 1 := andi main_v58 main_v62
  let main_v64 : FVec F S136x136 .f32 := Host.absf main_arg16
  let main_cst_24 : FVec F S_ .f32 := constant S_ .f32 0x7F800000#32
  let main_v65 : FVec F S136x136 .f32 := broadcastInDim S136x136 ![] bcast_S_S136x136 main_cst_24
  let main_v66 : IVec S136x136 1 := cmpf .olt main_v64 main_v65
  let main_c_25 : IVec S_ 1 := constantI S_ 1 1#1
  let main_v67 : IVec S_ 1 := (fun x v => Host.reduce IntOp.andi x v reducesTo_S136x136_S_d0_1 h_S_) main_v66 main_c_25
  fn_part4 (F := F) main_arg17 main_arg18 main_arg19 main_arg20 main_v63 main_v67

def fn_part2 {F : FTy → Type} [FloatOps F] (main_arg10 : FVec F S128x136 .f32) (main_arg11 : FVec F S136 .f32) (main_arg12 : FVec F S136x136 .f32) (main_arg13 : FVec F S136 .f32) (main_arg14 : FVec F S136x136 .f32) (main_arg15 : FVec F S136 .f32) (main_arg16 : FVec F S136x136 .f32) (main_arg17 : FVec F S136 .f32) (main_arg18 : FVec F S136x136 .f32) (main_arg19 : FVec F S136 .f32) (main_arg20 : FVec F S136x128 .f32) (main_v33 : IVec S_ 1) : IVec S_ 1 :=
  let main_v34 : FVec F S128x136 .f32 := Host.absf main_arg10
  let main_cst_12 : FVec F S_ .f32 := constant S_ .f32 0x7F800000#32
  let main_v35 : FVec F S128x136 .f32 := broadcastInDim S128x136 ![] bcast_S_S128x136 main_cst_12
  let main_v36 : IVec S128x136 1 := cmpf .olt main_v34 main_v35
  let main_c_13 : IVec S_ 1 := constantI S_ 1 1#1
  let main_v37 : IVec S_ 1 := (fun x v => Host.reduce IntOp.andi x v reducesTo_S128x136_S_d0_1 h_S_) main_v36 main_c_13
  let main_v38 : IVec S_ 1 := andi main_v33 main_v37
  let main_v39 : FVec F S136 .f32 := Host.absf main_arg11
  let main_cst_14 : FVec F S_ .f32 := constant S_ .f32 0x7F800000#32
  let main_v40 : FVec F S136 .f32 := broadcastInDim S136 ![] bcast_S_S136 main_cst_14
  let main_v41 : IVec S136 1 := cmpf .olt main_v39 main_v40
  let main_c_15 : IVec S_ 1 := constantI S_ 1 1#1
  let main_v42 : IVec S_ 1 := (fun x v => Host.reduce IntOp.andi x v reducesTo_S136_S_d0 h_S_) main_v41 main_c_15
  let main_v43 : IVec S_ 1 := andi main_v38 main_v42
  let main_v44 : FVec F S136x136 .f32 := Host.absf main_arg12
  let main_cst_16 : FVec F S_ .f32 := constant S_ .f32 0x7F800000#32
  let main_v45 : FVec F S136x136 .f32 := broadcastInDim S136x136 ![] bcast_S_S136x136 main_cst_16
  let main_v46 : IVec S136x136 1 := cmpf .olt main_v44 main_v45
  let main_c_17 : IVec S_ 1 := constantI S_ 1 1#1
  let main_v47 : IVec S_ 1 := (fun x v => Host.reduce IntOp.andi x v reducesTo_S136x136_S_d0_1 h_S_) main_v46 main_c_17
  let main_v48 : IVec S_ 1 := andi main_v43 main_v47
  let main_v49 : FVec F S136 .f32 := Host.absf main_arg13
  let main_cst_18 : FVec F S_ .f32 := constant S_ .f32 0x7F800000#32
  let main_v50 : FVec F S136 .f32 := broadcastInDim S136 ![] bcast_S_S136 main_cst_18
  fn_part3 (F := F) main_arg14 main_arg15 main_arg16 main_arg17 main_arg18 main_arg19 main_arg20 main_v48 main_v49 main_v50

def fn_part1 {F : FTy → Type} [FloatOps F] (main_arg7 : FVec F S128 .f32) (main_arg8 : FVec F S128x128 .f32) (main_arg9 : FVec F S128 .f32) (main_arg10 : FVec F S128x136 .f32) (main_arg11 : FVec F S136 .f32) (main_arg12 : FVec F S136x136 .f32) (main_arg13 : FVec F S136 .f32) (main_arg14 : FVec F S136x136 .f32) (main_arg15 : FVec F S136 .f32) (main_arg16 : FVec F S136x136 .f32) (main_arg17 : FVec F S136 .f32) (main_arg18 : FVec F S136x136 .f32) (main_arg19 : FVec F S136 .f32) (main_arg20 : FVec F S136x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_v33

def fn {F : FTy → Type} [FloatOps F] (main_arg0 : FVec F S128x128 .f32) (main_arg1 : FVec F S128x128 .f32) (main_arg2 : FVec F S65536x128 .f32) (main_arg3 : FVec F S65536x128 .f32) (main_arg4 : FVec F S65536 .f32) (main_arg5 : FVec F S65536 .f32) (main_arg6 : FVec F S128x128 .f32) (main_arg7 : FVec F S128 .f32) (main_arg8 : FVec F S128x128 .f32) (main_arg9 : FVec F S128 .f32) (main_arg10 : FVec F S128x136 .f32) (main_arg11 : FVec F S136 .f32) (main_arg12 : FVec F S136x136 .f32) (main_arg13 : FVec F S136 .f32) (main_arg14 : FVec F S136x136 .f32) (main_arg15 : FVec F S136 .f32) (main_arg16 : FVec F S136x136 .f32) (main_arg17 : FVec F S136 .f32) (main_arg18 : FVec F S136x136 .f32) (main_arg19 : FVec F S136 .f32) (main_arg20 : FVec F S136x128 .f32) (main_arg21 : FVec F S128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S65536x128 .f32 := Host.absf main_arg2
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg3
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_v13 main_v16
-- ==== Kernel.lean ====
abbrev S128x128 : Shape := ⟨2, ![128, 128]⟩
abbrev S65536x128 : Shape := ⟨2, ![65536, 128]⟩
abbrev S65536 : Shape := ⟨1, ![65536]⟩
abbrev S128 : Shape := ⟨1, ![128]⟩
abbrev S128x136 : Shape := ⟨2, ![128, 136]⟩
abbrev S136 : Shape := ⟨1, ![136]⟩
abbrev S136x136 : Shape := ⟨2, ![136, 136]⟩
abbrev S136x128 : Shape := ⟨2, ![136, 128]⟩
abbrev S_ : Shape := ⟨0, ![]⟩
abbrev S128x1 : Shape := ⟨2, ![128, 1]⟩
abbrev S1 : Shape := ⟨1, ![1]⟩
abbrev S1x1 : Shape := ⟨2, ![1, 1]⟩
abbrev S1x136 : Shape := ⟨2, ![1, 136]⟩
abbrev S1x128 : Shape := ⟨2, ![1, 128]⟩
abbrev S8x8 : Shape := ⟨2, ![8, 8]⟩
abbrev S8x8x17 : Shape := ⟨3, ![8, 8, 17]⟩
abbrev S8x136 : Shape := ⟨2, ![8, 136]⟩
abbrev S512x128 : Shape := ⟨2, ![512, 128]⟩
abbrev S1024x136 : Shape := ⟨2, ![1024, 136]⟩
abbrev S1024x128 : Shape := ⟨2, ![1024, 128]⟩
abbrev S1024x1 : Shape := ⟨2, ![1024, 1]⟩
abbrev S128x512 : Shape := ⟨2, ![128, 512]⟩
abbrev S1x512 : Shape := ⟨2, ![1, 512]⟩
abbrev S1024x512 : Shape := ⟨2, ![1024, 512]⟩
abbrev S1024 : Shape := ⟨1, ![1024]⟩

abbrev nBuf : Space → Nat
  | .hbm => 103
  | .vmem => 29
  | .smem => 0
  | _ => 0

abbrev bufTy : (tb : Table) → Fin (tcTables nBuf tb) → BufTy
  | .hbm, ⟨0, _⟩ => ⟨S128x128, .f32⟩
  | .hbm, ⟨1, _⟩ => ⟨S128x128, .f32⟩
  | .hbm, ⟨2, _⟩ => ⟨S65536x128, .f32⟩
  | .hbm, ⟨3, _⟩ => ⟨S65536x128, .f32⟩
  | .hbm, ⟨4, _⟩ => ⟨S65536, .f32⟩
  | .hbm, ⟨5, _⟩ => ⟨S65536, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x136, .f32⟩
  | .hbm, ⟨11, _⟩ => ⟨S136, .f32⟩
  | .hbm, ⟨12, _⟩ => ⟨S136x136, .f32⟩
  | .hbm, ⟨13, _⟩ => ⟨S136, .f32⟩
  | .hbm, ⟨14, _⟩ => ⟨S136x136, .f32⟩
  | .hbm, ⟨15, _⟩ => ⟨S136, .f32⟩
  | .hbm, ⟨16, _⟩ => ⟨S136x136, .f32⟩
  | .hbm, ⟨17, _⟩ => ⟨S136, .f32⟩
  | .hbm, ⟨18, _⟩ => ⟨S136x136, .f32⟩
  | .hbm, ⟨19, _⟩ => ⟨S136, .f32⟩
  | .hbm, ⟨20, _⟩ => ⟨S136x128, .f32⟩
  | .hbm, ⟨21, _⟩ => ⟨S128, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S128, .f32⟩
  | .hbm, ⟨28, _⟩ => ⟨S128, .i32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S1x1, .i32⟩
  | .hbm, ⟨42, _⟩ => ⟨S128x1, .i32⟩
  | .hbm, ⟨43, _⟩ => ⟨S128x1, .i1⟩
  | .hbm, ⟨44, _⟩ => ⟨S128x1, .i1⟩
  | .hbm, ⟨45, _⟩ => ⟨S_, .i1⟩
  | .hbm, ⟨46, _⟩ => ⟨S128, .i1⟩
  | .hbm, ⟨47, _⟩ => ⟨S128x128, .f32⟩
  | .hbm, ⟨48, _⟩ => ⟨S128x128, .i1⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S128x1, .i32⟩
  | .hbm, ⟨60, _⟩ => ⟨S1, .i32⟩
  | .hbm, ⟨61, _⟩ => ⟨S_, .i32⟩
  | .hbm, ⟨62, _⟩ => ⟨S128x1, .i32⟩
  | .hbm, ⟨63, _⟩ => ⟨S128x1, .i1⟩
  | .hbm, ⟨64, _⟩ => ⟨S1x1, .i32⟩
  | .hbm, ⟨65, _⟩ => ⟨S128x1, .i32⟩
  | .hbm, ⟨66, _⟩ => ⟨S128x1, .i1⟩
  | .hbm, ⟨67, _⟩ => ⟨S128x1, .i1⟩
  | .hbm, ⟨68, _⟩ => ⟨S_, .i1⟩
  | .hbm, ⟨69, _⟩ => ⟨S128, .i1⟩
  | .hbm, ⟨70, _⟩ => ⟨S128x128, .f32⟩
  | .hbm, ⟨71, _⟩ => ⟨S128x128, .i1⟩
  | .hbm, ⟨72, _⟩ => ⟨S_, .f32⟩
  | .hbm, ⟨73, _⟩ => ⟨S128x128, .f32⟩
  | .hbm, ⟨74, _⟩ => ⟨S128x128, .f32⟩
  | .hbm, ⟨75, _⟩ => ⟨S128x136, .f32⟩
  | .hbm, ⟨76, _⟩ => ⟨S136, .f32⟩
  | .hbm, ⟨77, _⟩ => ⟨S136, .f32⟩
  | .hbm, ⟨78, _⟩ => ⟨S1x136, .f32⟩
  | .hbm, ⟨79, _⟩ => ⟨S128x136, .f32⟩
  | .hbm, ⟨80, _⟩ => ⟨S136, .f32⟩
  | .hbm, ⟨81, _⟩ => ⟨S136, .f32⟩
  | .hbm, ⟨82, _⟩ => ⟨S1x136, .f32⟩
  | .hbm, ⟨83, _⟩ => ⟨S128x136, .f32⟩
  | .hbm, ⟨84, _⟩ => ⟨S136, .f32⟩
  | .hbm, ⟨85, _⟩ => ⟨S136, .f32⟩
  | .hbm, ⟨86, _⟩ => ⟨S1x136, .f32⟩
  | .hbm, ⟨87, _⟩ => ⟨S136x128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S8x8, .i32⟩
  | .hbm, ⟨92, _⟩ => ⟨S8x8, .i32⟩
  | .hbm, ⟨93, _⟩ => ⟨S_, .i32⟩
  | .hbm, ⟨94, _⟩ => ⟨S8x8, .i32⟩
  | .hbm, ⟨95, _⟩ => ⟨S8x8, .i32⟩
  | .hbm, ⟨96, _⟩ => ⟨S8x8, .i1⟩
  | .hbm, ⟨97, _⟩ => ⟨S8x8, .f32⟩
  | .hbm, ⟨98, _⟩ => ⟨S8x8x17, .f32⟩
  | .hbm, ⟨99, _⟩ => ⟨S8x136, .f32⟩
  | .hbm, ⟨100, _⟩ => ⟨S1x128, .f32⟩
  | .hbm, ⟨101, _⟩ => ⟨S1x128, .f32⟩
  | .hbm, ⟨102, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S128x128, .f32⟩
  | .local _ .vmem, ⟨8, _⟩ => ⟨S128x136, .f32⟩
  | .local _ .vmem, ⟨9, _⟩ => ⟨S1x136, .f32⟩
  | .local _ .vmem, ⟨10, _⟩ => ⟨S128x136, .f32⟩
  | .local _ .vmem, ⟨11, _⟩ => ⟨S1x136, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x136, .f32⟩
  | .local _ .vmem, ⟨17, _⟩ => ⟨S1x136, .f32⟩
  | .local _ .vmem, ⟨18, _⟩ => ⟨S136x128, .f32⟩
  | .local _ .vmem, ⟨19, _⟩ => ⟨S1x128, .f32⟩
  | .local _ .vmem, ⟨20, _⟩ => ⟨S8x136, .f32⟩
  | .local _ .vmem, ⟨21, _⟩ => ⟨S128x128, .f32⟩
  | .local _ .vmem, ⟨22, _⟩ => ⟨S1024x136, .f32⟩
  | .local _ .vmem, ⟨23, _⟩ => ⟨S1024x128, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x128, .f32⟩
  | .local _ .vmem, ⟨28, _⟩ => ⟨S128x1, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_values : Ref sig .tc := ⟨.hbm, 27, rfl⟩
abbrev main_indices : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v4 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v5 : Ref sig .tc := ⟨.hbm, 74, rfl⟩
abbrev main_v6 : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_c : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v55 : BitVec 1 := Scalar.cmpi .eq arg0 c127_i32
  let v56 : BitVec 32 := Scalar.extui v55
  let c0_i32_36 : BitVec 32 := 0#32
  let v57 : BitVec 1 := Scalar.cmpi .ne v56 c0_i32_36
  v57

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x136 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x136 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x136 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x136 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x136 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x136 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S136x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x136 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "far" => some ⊤
  | "scale" => some (((Real.sqrt 17)⁻¹ : ℝ) : EReal)
  | "thresh_sq" => some ((1 / 100 : ℝ) : EReal)
  | _ => none
-- ==== Reference.lean ====
abbrev S128x128 : Shape := ⟨2, ![128, 128]⟩
abbrev S65536x128 : Shape := ⟨2, ![65536, 128]⟩
abbrev S65536 : Shape := ⟨1, ![65536]⟩
abbrev S128 : Shape := ⟨1, ![128]⟩
abbrev S128x136 : Shape := ⟨2, ![128, 136]⟩
abbrev S136 : Shape := ⟨1, ![136]⟩
abbrev S136x136 : Shape := ⟨2, ![136, 136]⟩
abbrev S136x128 : Shape := ⟨2, ![136, 128]⟩
abbrev S_ : Shape := ⟨0, ![]⟩
abbrev S128x1 : Shape := ⟨2, ![128, 1]⟩
abbrev S1x65536 : Shape := ⟨2, ![1, 65536]⟩
abbrev S128x65536 : Shape := ⟨2, ![128, 65536]⟩
abbrev S1x128 : Shape := ⟨2, ![1, 128]⟩
abbrev S1 : Shape := ⟨1, ![1]⟩
abbrev S1x1 : Shape := ⟨2, ![1, 1]⟩
abbrev S1x136 : Shape := ⟨2, ![1, 136]⟩
abbrev S65536x136 : Shape := ⟨2, ![65536, 136]⟩
abbrev S128x8x17 : Shape := ⟨3, ![128, 8, 17]⟩
abbrev S65536x8x17 : Shape := ⟨3, ![65536, 8, 17]⟩
abbrev S8x65536x128 : Shape := ⟨3, ![8, 65536, 128]⟩
abbrev S128x8x65536 : Shape := ⟨3, ![128, 8, 65536]⟩
abbrev S128x8 : Shape := ⟨2, ![128, 8]⟩
abbrev S128x8x1 : Shape := ⟨3, ![128, 8, 1]⟩
abbrev S8x17x128 : Shape := ⟨3, ![8, 17, 128]⟩

abbrev nBuf : Space → Nat
  | .hbm => 200
  | .vmem => 0
  | .smem => 0
  | _ => 0

abbrev hbmTy0_0 (i : Nat) : BufTy := match i % 128 with
  | 0 => ⟨S128x128, .f32⟩
  | 1 => ⟨S128x128, .f32⟩
  | 2 => ⟨S65536x128, .f32⟩
  | 3 => ⟨S65536x128, .f32⟩
  | 4 => ⟨S65536, .f32⟩
  | 5 => ⟨S65536, .f32⟩
  | 6 => ⟨S128x128, .f32⟩
  | 7 => ⟨S128, .f32⟩
  | 8 => ⟨S128x128, .f32⟩
  | 9 => ⟨S128, .f32⟩
  | 10 => ⟨S128x136, .f32⟩
  | 11 => ⟨S136, .f32⟩
  | 12 => ⟨S136x136, .f32⟩
  | 13 => ⟨S136, .f32⟩
  | 14 => ⟨S136x136, .f32⟩
  | 15 => ⟨S136, .f32⟩
  | 16 => ⟨S136x136, .f32⟩
  | 17 => ⟨S136, .f32⟩
  | 18 => ⟨S136x136, .f32⟩
  | 19 => ⟨S136, .f32⟩
  | 20 => ⟨S136x128, .f32⟩
  | 21 => ⟨S128, .f32⟩
  | 22 => ⟨S128x128, .f32⟩
  | 23 => ⟨S_, .f32⟩
  | 24 => ⟨S128, .f32⟩
  | 25 => ⟨S128, .f32⟩
  | 26 => ⟨S128x128, .f32⟩
  | 27 => ⟨S_, .f32⟩
  | 28 => ⟨S128, .f32⟩
  | 29 => ⟨S128x1, .f32⟩
  | 30 => ⟨S65536x128, .f32⟩
  | 31 => ⟨S_, .f32⟩
  | 32 => ⟨S65536, .f32⟩
  | 33 => ⟨S1x65536, .f32⟩
  | 34 => ⟨S128x65536, .f32⟩
  | 35 => ⟨S128x65536, .f32⟩
  | 36 => ⟨S128x65536, .f32⟩
  | 37 => ⟨S128x65536, .f32⟩
  | 38 => ⟨S128x65536, .f32⟩
  | 39 => ⟨S_, .f32⟩
  | 40 => ⟨S128x65536, .f32⟩
  | 41 => ⟨S128x65536, .f32⟩
  | 42 => ⟨S128x65536, .f32⟩
  | 43 => ⟨S_, .f32⟩
  | 44 => ⟨S_, .f32⟩
  | 45 => ⟨S128x65536, .f32⟩
  | 46 => ⟨S128x65536, .f32⟩
  | 47 => ⟨S_, .f32⟩
  | 48 => ⟨S128, .f32⟩
  | 49 => ⟨S128, .f32⟩
  | 50 => ⟨S128, .f32⟩
  | 51 => ⟨S_, .f32⟩
  | 52 => ⟨S_, .f32⟩
  | 53 => ⟨S_, .f32⟩
  | 54 => ⟨S128, .f32⟩
  | 55 => ⟨S128, .i1⟩
  | 56 => ⟨S_, .f32⟩
  | 57 => ⟨S65536, .f32⟩
  | 58 => ⟨S65536, .f32⟩
  | 59 => ⟨S65536, .f32⟩
  | 60 => ⟨S65536, .f32⟩
  | 61 => ⟨S128, .f32⟩
  | 62 => ⟨S128, .i32⟩
  | 63 => ⟨S128x128, .f32⟩
  | 64 => ⟨S1x128, .f32⟩
  | 65 => ⟨S128x128, .f32⟩
  | 66 => ⟨S128x128, .f32⟩
  | 67 => ⟨S128x128, .f32⟩
  | 68 => ⟨S1x128, .f32⟩
  | 69 => ⟨S128x128, .f32⟩
  | 70 => ⟨S128x128, .f32⟩
  | 71 => ⟨S_, .i32⟩
  | 72 => ⟨S128, .i32⟩
  | 73 => ⟨S128, .i1⟩
  | 74 => ⟨S_, .i32⟩
  | 75 => ⟨S128, .i32⟩
  | 76 => ⟨S128, .i32⟩
  | 77 => ⟨S128, .i32⟩
  | 78 => ⟨S128x1, .i32⟩
  | 79 => ⟨S1, .i32⟩
  | 80 => ⟨S_, .i32⟩
  | 81 => ⟨S128x1, .i32⟩
  | 82 => ⟨S128x1, .i1⟩
  | 83 => ⟨S1x1, .i32⟩
  | 84 => ⟨S128x1, .i32⟩
  | 85 => ⟨S128x1, .i1⟩
  | 86 => ⟨S128x1, .i1⟩
  | 87 => ⟨S_, .i1⟩
  | 88 => ⟨S128, .i1⟩
  | 89 => ⟨S128x128, .f32⟩
  | 90 => ⟨S128x128, .i1⟩
  | 91 => ⟨S_, .f32⟩
  | 92 => ⟨S128x128, .f32⟩
  | 93 => ⟨S128x128, .f32⟩
  | 94 => ⟨S_, .i32⟩
  | 95 => ⟨S128, .i32⟩
  | 96 => ⟨S128, .i1⟩
  | 97 => ⟨S_, .i32⟩
  | 98 => ⟨S128, .i32⟩
  | 99 => ⟨S128, .i32⟩
  | 100 => ⟨S128, .i32⟩
  | 101 => ⟨S128x1, .i32⟩
  | 102 => ⟨S1, .i32⟩
  | 103 => ⟨S_, .i32⟩
  | 104 => ⟨S128x1, .i32⟩
  | 105 => ⟨S128x1, .i1⟩
  | 106 => ⟨S1x1, .i32⟩
  | 107 => ⟨S128x1, .i32⟩
  | 108 => ⟨S128x1, .i1⟩
  | 109 => ⟨S128x1, .i1⟩
  | 110 => ⟨S_, .i1⟩
  | 111 => ⟨S128, .i1⟩
  | 112 => ⟨S128x128, .f32⟩
  | 113 => ⟨S128x128, .i1⟩
  | 114 => ⟨S_, .f32⟩
  | 115 => ⟨S128x128, .f32⟩
  | 116 => ⟨S128x128, .f32⟩
  | 117 => ⟨S128x1, .i1⟩
  | 118 => ⟨S128x128, .i1⟩
  | 119 => ⟨S128x128, .f32⟩
  | 120 => ⟨S128x1, .i1⟩
  | 121 => ⟨S128x128, .i1⟩
  | 122 => ⟨S128x128, .f32⟩
  | 123 => ⟨S_, .i32⟩
  | 124 => ⟨S128, .i32⟩
  | 125 => ⟨S128, .i1⟩
  | 126 => ⟨S_, .i32⟩
  | 127 => ⟨S128, .i32⟩
  | _ => ⟨S128x128, .f32⟩

abbrev hbmTy0_1 (i : Nat) : BufTy := match i % 128 with
  | 0 => ⟨S128, .i32⟩
  | 1 => ⟨S128, .i32⟩
  | 2 => ⟨S128x1, .i32⟩
  | 3 => ⟨S65536x128, .f32⟩
  | 4 => ⟨S_, .i32⟩
  | 5 => ⟨S128, .i32⟩
  | 6 => ⟨S128, .i1⟩
  | 7 => ⟨S_, .i32⟩
  | 8 => ⟨S128, .i32⟩
  | 9 => ⟨S128, .i32⟩
  | 10 => ⟨S128, .i32⟩
  | 11 => ⟨S128x1, .i32⟩
  | 12 => ⟨S65536x128, .f32⟩
  | 13 => ⟨S128x136, .f32⟩
  | 14 => ⟨S1x136, .f32⟩
  | 15 => ⟨S128x136, .f32⟩
  | 16 => ⟨S128x136, .f32⟩
  | 17 => ⟨S65536x136, .f32⟩
  | 18 => ⟨S1x136, .f32⟩
  | 19 => ⟨S65536x136, .f32⟩
  | 20 => ⟨S65536x136, .f32⟩
  | 21 => ⟨S65536x136, .f32⟩
  | 22 => ⟨S1x136, .f32⟩
  | 23 => ⟨S65536x136, .f32⟩
  | 24 => ⟨S65536x136, .f32⟩
  | 25 => ⟨S128x136, .f32⟩
  | 26 => ⟨S1x136, .f32⟩
  | 27 => ⟨S128x136, .f32⟩
  | 28 => ⟨S128x136, .f32⟩
  | 29 => ⟨S128x8x17, .f32⟩
  | 30 => ⟨S65536x136, .f32⟩
  | 31 => ⟨S1x136, .f32⟩
  | 32 => ⟨S65536x136, .f32⟩
  | 33 => ⟨S65536x136, .f32⟩
  | 34 => ⟨S65536x8x17, .f32⟩
  | 35 => ⟨S65536x136, .f32⟩
  | 36 => ⟨S1x136, .f32⟩
  | 37 => ⟨S65536x136, .f32⟩
  | 38 => ⟨S65536x136, .f32⟩
  | 39 => ⟨S65536x8x17, .f32⟩
  | 40 => ⟨S8x65536x128, .f32⟩
  | 41 => ⟨S128x8x65536, .f32⟩
  | 42 => ⟨S_, .f32⟩
  | 43 => ⟨S_, .f32⟩
  | 44 => ⟨S_, .f32⟩
  | 45 => ⟨S128x8x65536, .f32⟩
  | 46 => ⟨S128x8x65536, .f32⟩
  | 47 => ⟨S_, .f32⟩
  | 48 => ⟨S128x8, .f32⟩
  | 49 => ⟨S_, .f32⟩
  | 50 => ⟨S128x8, .f32⟩
  | 51 => ⟨S128x8, .f32⟩
  | 52 => ⟨S128x8x1, .f32⟩
  | 53 => ⟨S128x8x65536, .f32⟩
  | 54 => ⟨S128x8x65536, .f32⟩
  | 55 => ⟨S128x8x65536, .f32⟩
  | 56 => ⟨S_, .f32⟩
  | 57 => ⟨S128x8, .f32⟩
  | 58 => ⟨S128x8x1, .f32⟩
  | 59 => ⟨S128x8x65536, .f32⟩
  | 60 => ⟨S128x8x65536, .f32⟩
  | 61 => ⟨S8x17x128, .f32⟩
  | 62 => ⟨S128x8x17, .f32⟩
  | 63 => ⟨S128x136, .f32⟩
  | 64 => ⟨S128x136, .f32⟩
  | 65 => ⟨S1x136, .f32⟩
  | 66 => ⟨S128x136, .f32⟩
  | 67 => ⟨S128x136, .f32⟩
  | 68 => ⟨S128x128, .f32⟩
  | 69 => ⟨S1x128, .f32⟩
  | 70 => ⟨S128x128, .f32⟩
  | 71 => ⟨S128x128, .f32⟩
  | _ => ⟨S128x128, .f32⟩

abbrev hbmTy (i : Nat) : BufTy := match i / 128 with
  | 0 => hbmTy0_0 i
  | 1 => hbmTy0_1 i
  | _ => ⟨S128x128, .f32⟩

abbrev bufTy : (tb : Table) → Fin (tcTables nBuf tb) → BufTy
  | .hbm, ⟨i, _⟩ => hbmTy i
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_4 : Ref sig .tc := ⟨.hbm, 51, rfl⟩
abbrev main_cst_5 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_6 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_values : Ref sig .tc := ⟨.hbm, 61, rfl⟩
abbrev main_indices : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v34 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v35 : Ref sig .tc := ⟨.hbm, 116, rfl⟩
abbrev main_v36 : Ref sig .tc := ⟨.hbm, 117, rfl⟩
abbrev main_call4_v0 : Ref sig .tc := ⟨.hbm, 118, rfl⟩
abbrev main_v37 : Ref sig .tc := ⟨.hbm, 119, rfl⟩
abbrev main_v38 : Ref sig .tc := ⟨.hbm, 120, rfl⟩
abbrev main_call5_v0 : Ref sig .tc := ⟨.hbm, 121, rfl⟩
abbrev main_v39 : Ref sig .tc := ⟨.hbm, 122, rfl⟩
abbrev main_c : Ref sig .tc := ⟨.hbm, 123, rfl⟩
abbrev main_v40 : Ref sig .tc := ⟨.hbm, 124, rfl⟩
abbrev main_v41 : Ref sig .tc := ⟨.hbm, 125, rfl⟩
abbrev main_c_7 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_c_8 : Ref sig .tc := ⟨.hbm, 132, rfl⟩
abbrev main_v47 : Ref sig .tc := ⟨.hbm, 133, rfl⟩
abbrev main_v48 : Ref sig .tc := ⟨.hbm, 134, rfl⟩
abbrev main_c_9 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_10 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_cst_11 : Ref sig .tc := ⟨.hbm, 175, rfl⟩
abbrev main_v87 : Ref sig .tc := ⟨.hbm, 176, rfl⟩
abbrev main_cst_12 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_cst_13 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩

abbrev nD : Nat := 1
abbrev τ : Topo := Topo.v7x

variable {F : FTy → Type} [FloatOps F]
-- ==== Proof.KernelIdealState.lean ====
/- What one grid step computes: the carried scratch after the first step's set-up and after a streaming step, and the block the last step writes, as terms of the blocks the step reads. -/
module

public import proofs.«01_k».proof.Proof.Gen.KernelIdeal.Frame.Runs
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The folded queries (per head and row, against the memory-key coordinates), set at the first step. -/
def initQk (x0 : Vec F S128x128 .f32) (x6 : Vec F S128x136 .f32) (x7 : Vec F S1x136 .f32) (x8 : Vec F S128x136 .f32) (x18 : Vec F S8x136 .f32) : Vec F S1024x128 .f32 :=
  k0_pay18 (k0_pay9 x0 x6 x7 x18 x8)

/-- The folded key bias of each head and row, set at the first step. -/
def initQbk (x0 : Vec F S128x128 .f32) (x6 : Vec F S128x136 .f32) (x7 : Vec F S1x136 .f32) (x9 : Vec F S1x136 .f32) (x18 : Vec F S8x136 .f32) : Vec F S1024x1 .f32 :=
  k0_pay19 (k0_pay7 x0 x6 x7 x18) x9

/-- The running maximum after a step over the key block `x2`. -/
def stepM (x2 : Vec F S512x128 .f32) (qk : Vec F S1024x128 .f32) (qbk m : Vec F S1024x1 .f32) : Vec F S1024x1 .f32 :=
  k0_pay5 (k0_pay26 x2 qk qbk m)

/-- The running normaliser after a step over the key block `x2`. -/
def stepZ (x2 : Vec F S512x128 .f32) (qk : Vec F S1024x128 .f32) (qbk m z : Vec F S1024x1 .f32) : Vec F S1024x1 .f32 :=
  k0_pay3 (k0_pay25 x2 qk qbk) (k0_pay26 x2 qk qbk m) m z

/-- The running weighted sum of the value rows after a step over the key block `x2` and the value block `x3`. -/
def stepS (x2 x3 : Vec F S512x128 .f32) (qk : Vec F S1024x128 .f32) (qbk m : Vec F S1024x1 .f32) (s : Vec F S1024x128 .f32) : Vec F S1024x128 .f32 :=
  k0_pay4 x3 (k0_pay25 x2 qk qbk) (k0_pay26 x2 qk qbk m) m s

/-- The running least distance term after a step over the key block `x2`. -/
def stepD (x0 : Vec F S128x128 .f32) (x2 : Vec F S512x128 .f32) (d : Vec F S128x1 .f32) : Vec F S128x1 .f32 :=
  k0_pay24 x0 x2 d

/-- The block the last step writes, of the small operands and the carried scratch after its own streaming step. -/
def outBlock (x0 x1 x4 x5 : Vec F S128x128 .f32) (x10 : Vec F S128x128 .f32) (x11 : Vec F S1x128 .f32) (x12 : Vec F S128x128 .f32) (x13 : Vec F S1x128 .f32) (x14 : Vec F S128x136 .f32) (x15 : Vec F S1x136 .f32) (x16 : Vec F S136x128 .f32) (x17 : Vec F S1x128 .f32) (x18 : Vec F S8x136 .f32)
    (qk : Vec F S1024x128 .f32) (qbk m z : Vec F S1024x1 .f32) (s : Vec F S1024x128 .f32) (d : Vec F S128x1 .f32) : Vec F S128x128 .f32 :=
  k0_pay6 (k0_pay17 (k0_pay15 (k0_pay11 x4) (k0_pay12 x5) (k0_pay13 x0 x1 d x10 x11 x4) (k0_pay14 x0 x1 d x12 x13 x5) qk qbk m z s) (k0_pay16 x14) x15 x18 x16) x17

/-- The offsets of a whole two-axis buffer are the zero offsets. -/
theorem offs_zero : (![0, 0] : Fin 2 → Nat) = fun _ => 0 := funext fun a => by fin_cases a <;> rfl

/-- Every index of a shape lies in the rectangle that starts at the zero offsets and has the shape's extents. -/
theorem mem_whole_unit {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A buffer whose last store covers the whole shape reads as that store's payload. -/
theorem read_store_whole {κ : Kind} {sp : Space} {S : Shape} {e : EltTy} (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, mem_whole_unit h inb y⟩).trans (View.canon_cons_unit_zero h inb w L)

end Cert.KernelIdeal.Hand

end
-- ==== Proof.KernelIdealRunA.lean ====
/- The first step (set-up, then a streaming step) runs from any scratch to the scratch the set-up and one streaming step leave. -/
module

public import proofs.«01_k».proof.Proof.KernelIdealState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The first step (set-up, then a streaming step) runs from any scratch to the scratch the set-up and one streaming step leave. -/
theorem runA (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x136 .f32) (harg7 : arg7.IsWhole) (arg8 : Memref sig .tc .vmem S1x136 .f32) (harg8 : arg8.IsWhole) (arg9 : Memref sig .tc .vmem S128x136 .f32) (harg9 : arg9.IsWhole) (arg10 : Memref sig .tc .vmem S1x136 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x136 .f32) (harg15 : arg15.IsWhole) (arg16 : Memref sig .tc .vmem S1x136 .f32) (harg16 : arg16.IsWhole) (arg17 : Memref sig .tc .vmem S136x128 .f32) (harg17 : arg17.IsWhole) (arg18 : Memref sig .tc .vmem S1x128 .f32) (harg18 : arg18.IsWhole) (arg19 : Memref sig .tc .vmem S8x136 .f32) (harg19 : arg19.IsWhole) (arg20 : Memref sig .tc .vmem S128x128 .f32) (harg20 : arg20.IsWhole) (arg21 : Memref sig .tc .vmem S1024x136 .f32) (harg21 : arg21.IsWhole) (arg22 : Memref sig .tc .vmem S1024x128 .f32) (harg22 : arg22.IsWhole) (arg23 : Memref sig .tc .vmem S1024x1 .f32) (harg23 : arg23.IsWhole) (arg24 : Memref sig .tc .vmem S1024x1 .f32) (harg24 : arg24.IsWhole) (arg25 : Memref sig .tc .vmem S1024x1 .f32) (harg25 : arg25.IsWhole) (arg26 : Memref sig .tc .vmem S1024x128 .f32) (harg26 : arg26.IsWhole) (arg27 : Memref sig .tc .vmem S128x1 .f32) (harg27 : arg27.IsWhole) (hc0 : cond0_0 i) (hc1 : ¬cond0_1 i)
    (x0 : Vec F S128x128 .f32) (x2 : Vec F S512x128 .f32) (x3 : Vec F S512x128 .f32) (x6 : Vec F S128x136 .f32) (x7 : Vec F S1x136 .f32) (x8 : Vec F S128x136 .f32) (x9 : Vec F S1x136 .f32) (x18 : Vec F S8x136 .f32)  (E : Set ℕ) (K : PUnit → sProp 𝕄) :
    iprop(owns (c : Thread nD τ) arg1 fullShare x0 ∗ owns (c : Thread nD τ) arg3 fullShare x2 ∗ owns (c : Thread nD τ) arg4 fullShare x3 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg19 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg3 fullShare x2 ∗ owns (c : Thread nD τ) arg4 fullShare x3 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg19 fullShare x18 ∗ (∃ d, owns (c : Thread nD τ) arg21 fullShare d) ∗ owns (c : Thread nD τ) arg22 fullShare (initQk x0 x6 x7 x8 x18) ∗ owns (c : Thread nD τ) arg23 fullShare (initQbk x0 x6 x7 x9 x18) ∗ owns (c : Thread nD τ) arg24 fullShare (stepM x2 (initQk x0 x6 x7 x8 x18) (initQbk x0 x6 x7 x9 x18) k0_pay20) ∗ owns (c : Thread nD τ) arg25 fullShare (stepZ x2 (initQk x0 x6 x7 x8 x18) (initQbk x0 x6 x7 x9 x18) k0_pay20 k0_pay21) ∗ owns (c : Thread nD τ) arg26 fullShare (stepS x2 x3 (initQk x0 x6 x7 x8 x18) (initQbk x0 x6 x7 x9 x18) k0_pay20 k0_pay22) ∗ owns (c : Thread nD τ) arg27 fullShare (stepD x0 x2 k0_pay23)) -∗ K ⟨⟩))
      ⊢ wp frame (wpE (defs₀ (F := F)) Variants.none c none) E (cc0__flash_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__flash_kernel_eq_skeleton]; unfold cc0__flash_kernel_skel
  simp only [k0_part5_eq_skeleton, k0_part1_eq_skeleton]
  unfold owns
  iintro ⟨⟨%f1, %hf1, H1⟩, ⟨%f3, %hf3, H3⟩, ⟨%f4, %hf4, H4⟩, ⟨%f7, %hf7, H7⟩, ⟨%f8, %hf8, H8⟩, ⟨%f9, %hf9, H9⟩, ⟨%f10, %hf10, H10⟩, ⟨%f19, %hf19, H19⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  obtain rfl := harg1.eq_unread hf1; obtain rfl := harg3.eq_unread hf3; obtain rfl := harg4.eq_unread hf4; obtain rfl := harg7.eq_unread hf7; obtain rfl := harg8.eq_unread hf8; obtain rfl := harg9.eq_unread hf9; obtain rfl := harg10.eq_unread hf10; obtain rfl := harg19.eq_unread hf19
  sl_exec (disch := first | sl_exact hc0 | sl_exact hc1)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H19]
  · iexists _; isplitr; · ipureintro; exact harg19.read_unread _
    iexact H19
  isplitl [H21]
  · iexists _, _; isplitr; swap; · iexact H21
    ipureintro; rfl
  isplitl [H22]
  · iexists _; isplitr; swap; · iexact H22
    ipureintro
    refine (read_store_whole (S := S1024x128) arg22.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg7.read_unread, harg8.read_unread, harg9.read_unread, harg10.read_unread, harg19.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H23]
  · iexists _; isplitr; swap; · iexact H23
    ipureintro
    refine (read_store_whole (S := S1024x1) arg23.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg7.read_unread, harg8.read_unread, harg9.read_unread, harg10.read_unread, harg19.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H24]
  · iexists _; isplitr; swap; · iexact H24
    ipureintro
    refine (read_store_whole (S := S1024x1) arg24.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg7.read_unread, harg8.read_unread, harg9.read_unread, harg10.read_unread, harg19.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H25]
  · iexists _; isplitr; swap; · iexact H25
    ipureintro
    refine (read_store_whole (S := S1024x1) arg25.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg7.read_unread, harg8.read_unread, harg9.read_unread, harg10.read_unread, harg19.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H26]
  · iexists _; isplitr; swap; · iexact H26
    ipureintro
    refine (read_store_whole (S := S1024x128) arg26.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg7.read_unread, harg8.read_unread, harg9.read_unread, harg10.read_unread, harg19.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  iexists _; isplitr; swap; · iexact H27
  ipureintro
  refine (read_store_whole (S := S128x1) arg27.view _ offs_zero _ _ _).trans ?_
  sl_unfold_words
  simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg7.read_unread, harg8.read_unread, harg9.read_unread, harg10.read_unread, harg19.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]

end Cert.KernelIdeal.Hand

end
-- ==== Proof.KernelIdealRunB.lean ====
/- A middle step runs from the carried scratch to the scratch one streaming step leaves. -/
module

public import proofs.«01_k».proof.Proof.KernelIdealState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- A middle step runs from the carried scratch to the scratch one streaming step leaves. -/
theorem runB (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x136 .f32) (harg7 : arg7.IsWhole) (arg8 : Memref sig .tc .vmem S1x136 .f32) (harg8 : arg8.IsWhole) (arg9 : Memref sig .tc .vmem S128x136 .f32) (harg9 : arg9.IsWhole) (arg10 : Memref sig .tc .vmem S1x136 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x136 .f32) (harg15 : arg15.IsWhole) (arg16 : Memref sig .tc .vmem S1x136 .f32) (harg16 : arg16.IsWhole) (arg17 : Memref sig .tc .vmem S136x128 .f32) (harg17 : arg17.IsWhole) (arg18 : Memref sig .tc .vmem S1x128 .f32) (harg18 : arg18.IsWhole) (arg19 : Memref sig .tc .vmem S8x136 .f32) (harg19 : arg19.IsWhole) (arg20 : Memref sig .tc .vmem S128x128 .f32) (harg20 : arg20.IsWhole) (arg21 : Memref sig .tc .vmem S1024x136 .f32) (harg21 : arg21.IsWhole) (arg22 : Memref sig .tc .vmem S1024x128 .f32) (harg22 : arg22.IsWhole) (arg23 : Memref sig .tc .vmem S1024x1 .f32) (harg23 : arg23.IsWhole) (arg24 : Memref sig .tc .vmem S1024x1 .f32) (harg24 : arg24.IsWhole) (arg25 : Memref sig .tc .vmem S1024x1 .f32) (harg25 : arg25.IsWhole) (arg26 : Memref sig .tc .vmem S1024x128 .f32) (harg26 : arg26.IsWhole) (arg27 : Memref sig .tc .vmem S128x1 .f32) (harg27 : arg27.IsWhole) (hc0 : ¬cond0_0 i) (hc1 : ¬cond0_1 i)
    (x0 : Vec F S128x128 .f32) (x2 : Vec F S512x128 .f32) (x3 : Vec F S512x128 .f32) (qk : Vec F S1024x128 .f32) (qbk : Vec F S1024x1 .f32) (sm : Vec F S1024x1 .f32) (sz : Vec F S1024x1 .f32) (ss : Vec F S1024x128 .f32) (sd : Vec F S128x1 .f32) (E : Set ℕ) (K : PUnit → sProp 𝕄) :
    iprop(owns (c : Thread nD τ) arg1 fullShare x0 ∗ owns (c : Thread nD τ) arg3 fullShare x2 ∗ owns (c : Thread nD τ) arg4 fullShare x3 ∗ owns (c : Thread nD τ) arg22 fullShare qk ∗ owns (c : Thread nD τ) arg23 fullShare qbk ∗ owns (c : Thread nD τ) arg24 fullShare sm ∗ owns (c : Thread nD τ) arg25 fullShare sz ∗ owns (c : Thread nD τ) arg26 fullShare ss ∗ owns (c : Thread nD τ) arg27 fullShare sd
        ∗ (iprop(owns (c : Thread nD τ) arg1 fullShare x0 ∗ owns (c : Thread nD τ) arg3 fullShare x2 ∗ owns (c : Thread nD τ) arg4 fullShare x3 ∗ owns (c : Thread nD τ) arg22 fullShare qk ∗ owns (c : Thread nD τ) arg23 fullShare qbk ∗ owns (c : Thread nD τ) arg24 fullShare (stepM x2 qk qbk sm) ∗ owns (c : Thread nD τ) arg25 fullShare (stepZ x2 qk qbk sm sz) ∗ owns (c : Thread nD τ) arg26 fullShare (stepS x2 x3 qk qbk sm ss) ∗ owns (c : Thread nD τ) arg27 fullShare (stepD x0 x2 sd)) -∗ K ⟨⟩))
      ⊢ wp frame (wpE (defs₀ (F := F)) Variants.none c none) E (cc0__flash_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__flash_kernel_eq_skeleton]; unfold cc0__flash_kernel_skel
  simp only [k0_part5_eq_skeleton]
  unfold owns
  iintro ⟨⟨%f1, %hf1, H1⟩, ⟨%f3, %hf3, H3⟩, ⟨%f4, %hf4, H4⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
  obtain rfl := harg1.eq_unread hf1; obtain rfl := harg3.eq_unread hf3; obtain rfl := harg4.eq_unread hf4; obtain rfl := harg22.eq_unread hf22; obtain rfl := harg23.eq_unread hf23; obtain rfl := harg24.eq_unread hf24; obtain rfl := harg25.eq_unread hf25; obtain rfl := harg26.eq_unread hf26; obtain rfl := harg27.eq_unread hf27
  sl_exec (disch := first | sl_exact hc0 | sl_exact hc1)
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H22]
  · iexists _; isplitr; · ipureintro; exact harg22.read_unread _
    iexact H22
  isplitl [H23]
  · iexists _; isplitr; · ipureintro; exact harg23.read_unread _
    iexact H23
  isplitl [H24]
  · iexists _; isplitr; swap; · iexact H24
    ipureintro
    refine (read_store_whole (S := S1024x1) arg24.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H25]
  · iexists _; isplitr; swap; · iexact H25
    ipureintro
    refine (read_store_whole (S := S1024x1) arg25.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H26]
  · iexists _; isplitr; swap; · iexact H26
    ipureintro
    refine (read_store_whole (S := S1024x128) arg26.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  iexists _; isplitr; swap; · iexact H27
  ipureintro
  refine (read_store_whole (S := S128x1) arg27.view _ offs_zero _ _ _).trans ?_
  sl_unfold_words
  simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg3.read_unread, harg4.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]

end Cert.KernelIdeal.Hand

end
-- ==== Proof.KernelIdealRunC.lean ====
/- The last step runs from the carried scratch to the scratch one streaming step leaves, and writes the output block. -/
module

public import proofs.«01_k».proof.Proof.KernelIdealState

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The last step runs from the carried scratch to the scratch one streaming step leaves, and writes the output block. -/
theorem runC (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x136 .f32) (harg7 : arg7.IsWhole) (arg8 : Memref sig .tc .vmem S1x136 .f32) (harg8 : arg8.IsWhole) (arg9 : Memref sig .tc .vmem S128x136 .f32) (harg9 : arg9.IsWhole) (arg10 : Memref sig .tc .vmem S1x136 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x136 .f32) (harg15 : arg15.IsWhole) (arg16 : Memref sig .tc .vmem S1x136 .f32) (harg16 : arg16.IsWhole) (arg17 : Memref sig .tc .vmem S136x128 .f32) (harg17 : arg17.IsWhole) (arg18 : Memref sig .tc .vmem S1x128 .f32) (harg18 : arg18.IsWhole) (arg19 : Memref sig .tc .vmem S8x136 .f32) (harg19 : arg19.IsWhole) (arg20 : Memref sig .tc .vmem S128x128 .f32) (harg20 : arg20.IsWhole) (arg21 : Memref sig .tc .vmem S1024x136 .f32) (harg21 : arg21.IsWhole) (arg22 : Memref sig .tc .vmem S1024x128 .f32) (harg22 : arg22.IsWhole) (arg23 : Memref sig .tc .vmem S1024x1 .f32) (harg23 : arg23.IsWhole) (arg24 : Memref sig .tc .vmem S1024x1 .f32) (harg24 : arg24.IsWhole) (arg25 : Memref sig .tc .vmem S1024x1 .f32) (harg25 : arg25.IsWhole) (arg26 : Memref sig .tc .vmem S1024x128 .f32) (harg26 : arg26.IsWhole) (arg27 : Memref sig .tc .vmem S128x1 .f32) (harg27 : arg27.IsWhole) (hc0 : ¬cond0_0 i) (hc1 : cond0_1 i)
    (x0 : Vec F S128x128 .f32) (x1 : Vec F S128x128 .f32) (x2 : Vec F S512x128 .f32) (x3 : Vec F S512x128 .f32) (x4 : Vec F S128x128 .f32) (x5 : Vec F S128x128 .f32) (x10 : Vec F S128x128 .f32) (x11 : Vec F S1x128 .f32) (x12 : Vec F S128x128 .f32) (x13 : Vec F S1x128 .f32) (x14 : Vec F S128x136 .f32) (x15 : Vec F S1x136 .f32) (x16 : Vec F S136x128 .f32) (x17 : Vec F S1x128 .f32) (x18 : Vec F S8x136 .f32) (qk : Vec F S1024x128 .f32) (qbk : Vec F S1024x1 .f32) (sm : Vec F S1024x1 .f32) (sz : Vec F S1024x1 .f32) (ss : Vec F S1024x128 .f32) (sd : Vec F S128x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ owns (c : Thread nD τ) arg22 fullShare qk ∗ owns (c : Thread nD τ) arg23 fullShare qbk ∗ owns (c : Thread nD τ) arg24 fullShare sm ∗ owns (c : Thread nD τ) arg25 fullShare sz ∗ owns (c : Thread nD τ) arg26 fullShare ss ∗ owns (c : Thread nD τ) arg27 fullShare sd
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare (outBlock x0 x1 x4 x5 x10 x11 x12 x13 x14 x15 x16 x17 x18 qk qbk (stepM x2 qk qbk sm) (stepZ x2 qk qbk sm sz) (stepS x2 x3 qk qbk sm ss) (stepD x0 x2 sd)) ∗ owns (c : Thread nD τ) arg22 fullShare qk ∗ owns (c : Thread nD τ) arg23 fullShare qbk ∗ owns (c : Thread nD τ) arg24 fullShare (stepM x2 qk qbk sm) ∗ owns (c : Thread nD τ) arg25 fullShare (stepZ x2 qk qbk sm sz) ∗ owns (c : Thread nD τ) arg26 fullShare (stepS x2 x3 qk qbk sm ss) ∗ owns (c : Thread nD τ) arg27 fullShare (stepD x0 x2 sd)) -∗ K ⟨⟩))
      ⊢ wp frame (wpE (defs₀ (F := F)) Variants.none c none) E (cc0__flash_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__flash_kernel_eq_skeleton]; unfold cc0__flash_kernel_skel
  simp only [k0_part5_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f22, %hf22, H22⟩, ⟨%f23, %hf23, H23⟩, ⟨%f24, %hf24, H24⟩, ⟨%f25, %hf25, H25⟩, ⟨%f26, %hf26, H26⟩, ⟨%f27, %hf27, H27⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg22.eq_unread hf22; obtain rfl := harg23.eq_unread hf23; obtain rfl := harg24.eq_unread hf24; obtain rfl := harg25.eq_unread hf25; obtain rfl := harg26.eq_unread hf26; obtain rfl := harg27.eq_unread hf27
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _; isplitr; · ipureintro; exact harg18.read_unread _
    iexact H18
  isplitl [H19]
  · iexists _; isplitr; · ipureintro; exact harg19.read_unread _
    iexact H19
  isplitl [H20]
  · iexists _; isplitr; swap; · iexact H20
    ipureintro
    refine (read_store_whole (S := S128x128) arg20.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg2.read_unread, harg3.read_unread, harg4.read_unread, harg5.read_unread, harg6.read_unread, harg11.read_unread, harg12.read_unread, harg13.read_unread, harg14.read_unread, harg15.read_unread, harg16.read_unread, harg17.read_unread, harg18.read_unread, harg19.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H22]
  · iexists _; isplitr; · ipureintro; exact harg22.read_unread _
    iexact H22
  isplitl [H23]
  · iexists _; isplitr; · ipureintro; exact harg23.read_unread _
    iexact H23
  isplitl [H24]
  · iexists _; isplitr; swap; · iexact H24
    ipureintro
    refine (read_store_whole (S := S1024x1) arg24.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg2.read_unread, harg3.read_unread, harg4.read_unread, harg5.read_unread, harg6.read_unread, harg11.read_unread, harg12.read_unread, harg13.read_unread, harg14.read_unread, harg15.read_unread, harg16.read_unread, harg17.read_unread, harg18.read_unread, harg19.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H25]
  · iexists _; isplitr; swap; · iexact H25
    ipureintro
    refine (read_store_whole (S := S1024x1) arg25.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg2.read_unread, harg3.read_unread, harg4.read_unread, harg5.read_unread, harg6.read_unread, harg11.read_unread, harg12.read_unread, harg13.read_unread, harg14.read_unread, harg15.read_unread, harg16.read_unread, harg17.read_unread, harg18.read_unread, harg19.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  isplitl [H26]
  · iexists _; isplitr; swap; · iexact H26
    ipureintro
    refine (read_store_whole (S := S1024x128) arg26.view _ offs_zero _ _ _).trans ?_
    sl_unfold_words
    simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg2.read_unread, harg3.read_unread, harg4.read_unread, harg5.read_unread, harg6.read_unread, harg11.read_unread, harg12.read_unread, harg13.read_unread, harg14.read_unread, harg15.read_unread, harg16.read_unread, harg17.read_unread, harg18.read_unread, harg19.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]
  iexists _; isplitr; swap; · iexact H27
  ipureintro
  refine (read_store_whole (S := S128x1) arg27.view _ offs_zero _ _ _).trans ?_
  sl_unfold_words
  simp only [View.readAt_eq_ld, View.readCov_unit_zero (S := S1024x1) _ offs_zero, View.readCov_unit_zero (S := S1024x128) _ offs_zero, View.readCov_unit_zero (S := S1024x136) _ offs_zero, View.readCov_unit_zero (S := S128x1) _ offs_zero, View.readCov_unit_zero (S := S128x128) _ offs_zero, View.readCov_unit_zero (S := S128x136) _ offs_zero, View.readCov_unit_zero (S := S136x128) _ offs_zero, View.readCov_unit_zero (S := S1x128) _ offs_zero, View.readCov_unit_zero (S := S1x136) _ offs_zero, View.readCov_unit_zero (S := S512x128) _ offs_zero, View.readCov_unit_zero (S := S8x136) _ offs_zero, harg1.read_unread, harg2.read_unread, harg3.read_unread, harg4.read_unread, harg5.read_unread, harg6.read_unread, harg11.read_unread, harg12.read_unread, harg13.read_unread, harg14.read_unread, harg15.read_unread, harg16.read_unread, harg17.read_unread, harg18.read_unread, harg19.read_unread, harg22.read_unread, harg23.read_unread, harg24.read_unread, harg25.read_unread, harg26.read_unread, harg27.read_unread, View.ld_unit_zero (S := S1024x1) offs_zero, View.ld_unit_zero (S := S1024x128) offs_zero, View.ld_unit_zero (S := S1024x136) offs_zero, View.ld_unit_zero (S := S128x1) offs_zero, View.ld_unit_zero (S := S128x128) offs_zero, View.ld_unit_zero (S := S128x136) offs_zero, View.ld_unit_zero (S := S136x128) offs_zero, View.ld_unit_zero (S := S1x128) offs_zero, View.ld_unit_zero (S := S1x136) offs_zero, View.ld_unit_zero (S := S512x128) offs_zero, View.ld_unit_zero (S := S8x136) offs_zero, stepM, stepZ, stepS, stepD, outBlock, initQk, initQbk]

end Cert.KernelIdeal.Hand

end
-- ==== Proof.KernelIdealFrame.lean ====
/- The frame: the carried scratch point by point, the proof data of the launch, the body obligation, the run of the whole program, and the frame claim (the arguments end unchanged, the counters at zero). -/
module

public import proofs.«01_k».proof.Proof.KernelIdealRunA
public import proofs.«01_k».proof.Proof.KernelIdealRunB
public import proofs.«01_k».proof.Proof.KernelIdealRunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The scratch carried from one grid point to the next. -/
structure Scr (F : FTy → Type) where
  /-- the folded queries -/
  qk : Vec F S1024x128 .f32
  /-- the folded key bias -/
  qbk : Vec F S1024x1 .f32
  /-- the running maximum -/
  mx : Vec F S1024x1 .f32
  /-- the running normaliser -/
  z : Vec F S1024x1 .f32
  /-- the running weighted sum -/
  s : Vec F S1024x128 .f32
  /-- the running least distance term -/
  d : Vec F S128x1 .f32

/-- The scratch as the first step's set-up leaves it. -/
def scrInit (c : Dev nD) (t : Fin cfg0.N) : Scr F where
  qk := initQk (iblk m c 0 t) (iblk m c 6 t) (iblk m c 7 t) (iblk m c 8 t) (iblk m c 18 t)
  qbk := initQbk (iblk m c 0 t) (iblk m c 6 t) (iblk m c 7 t) (iblk m c 9 t) (iblk m c 18 t)
  mx := k0_pay20
  z := k0_pay21
  s := k0_pay22
  d := k0_pay23

/-- The scratch after the streaming step of point `t`, from the scratch before it. -/
def scrStep (c : Dev nD) (t : Fin cfg0.N) (x : Scr F) : Scr F where
  qk := x.qk
  qbk := x.qbk
  mx := stepM (iblk m c 2 t) x.qk x.qbk x.mx
  z := stepZ (iblk m c 2 t) x.qk x.qbk x.mx x.z
  s := stepS (iblk m c 2 t) (iblk m c 3 t) x.qk x.qbk x.mx x.s
  d := stepD (iblk m c 0 t) (iblk m c 2 t) x.d

/-- A point of the grid by its number (past the last, the last). -/
def pt (n : ℕ) : Fin cfg0.N := ⟨min n 127, lt_of_lt_of_eq (by omega) N_0.symm⟩

/-- The point of a point's number is the point. -/
theorem pt_val (t : Fin cfg0.N) : pt t.val = t := by
  have : t.val < 128 := lt_of_lt_of_eq t.isLt N_0
  apply Fin.ext; show min t.val 127 = t.val; omega

/-- The scratch after point `n`. -/
def scrAt (c : Dev nD) : ℕ → Scr F
  | 0 => scrStep m c (pt 0) (scrInit m c (pt 0))
  | n + 1 => scrStep m c (pt (n + 1)) (scrAt c n)

/-- The output block of a point, of the scratch after it (written at the last point). -/
def outAt (c : Dev nD) (t : Fin cfg0.N) : Vec F S128x128 .f32 :=
  outBlock (iblk m c 0 t) (iblk m c 1 t) (iblk m c 4 t) (iblk m c 5 t) (iblk m c 10 t) (iblk m c 11 t) (iblk m c 12 t) (iblk m c 13 t) (iblk m c 14 t) (iblk m c 15 t) (iblk m c 16 t) (iblk m c 17 t) (iblk m c 18 t)
    (scrAt m c t.val).qk (scrAt m c t.val).qbk (scrAt m c t.val).mx (scrAt m c t.val).z (scrAt m c t.val).s (scrAt m c t.val).d

/-- The state after the first step. -/
theorem scrAt_first (c : Dev nD) (t : Fin cfg0.N) (h : t.val = 0) : scrAt m c t.val = scrStep m c t (scrInit m c t) := by
  have e : t = pt 0 := (pt_val t).symm.trans (by rw [h])
  rw [e, show (pt 0).val = 0 from rfl]; rfl

/-- The state after a later step, from the one before. -/
theorem scrAt_next (c : Dev nD) (t : Fin cfg0.N) (n : ℕ) (h : t.val = n + 1) : scrAt m c t.val = scrStep m c t (scrAt m c n) := by
  have e : t = pt (n + 1) := (pt_val t).symm.trans (by rw [h])
  rw [h]; conv_rhs => rw [e]
  rfl

/-- The carried scratch owned at the contents `x` names; the dead scratch and the generator at anything. -/
def scrOwned (c : Dev nD) (x : Scr F) : sProp 𝕄 :=
  iprop(iprop((∃ d, owns (c : Thread nD τ) scM0_0 fullShare d) ∗ owns (c : Thread nD τ) scM0_1 fullShare x.qk ∗ owns (c : Thread nD τ) scM0_2 fullShare x.qbk ∗ owns (c : Thread nD τ) scM0_3 fullShare x.mx ∗ owns (c : Thread nD τ) scM0_4 fullShare x.z ∗ owns (c : Thread nD τ) scM0_5 fullShare x.s ∗ owns (c : Thread nD τ) scM0_6 fullShare x.d) ∗ (∃ r, prngReg c r))

/-- The invariant before point `n`: what the launch hands over before the first, the scratch after the point before otherwise. -/
def inv (c : Dev nD) : ℕ → sProp 𝕄
  | 0 => Pipeline.ΦA spec0 c
  | n + 1 => scrOwned c (scrAt m c n)

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => outAt m c t
    | ⟨_ + 20, h⟩ => absurd h (Nat.not_lt.2 (Nat.le_add_left _ _))
  Φ t := inv m c t.val
  q _ := fullShare
  owed _ := 0

/-- The arrays the launch starts from. -/
theorem A_eq (c : Dev nD) (w : Fin cfg0.W) : (dats m 0 c).A w = V m c (Pipeline.arrRef spec0 w) := by
  dsimp only [dats]

/-- What a step leaves in window 0. -/
theorem after0 (c : Dev nD) (t : Fin cfg0.N) : (dats m 0 c).after 0 t = iblk m c 0 t := by dsimp only [dats]
/-- What a step leaves in window 1. -/
theorem after1 (c : Dev nD) (t : Fin cfg0.N) : (dats m 0 c).after 1 t = iblk m c 1 t := by dsimp only [dats]
/-- What a step leaves in window 2. -/
theorem after2 (c : Dev nD) (t : Fin cfg0.N) : (dats m 0 c).after 2 t = iblk m c 2 t := by dsimp only [dats]
/-- What a step leaves in window 3. -/
theorem after3 (c : Dev nD) (t : Fin cfg0.N) : (dats m 0 c).after 3 t = iblk m c 3 t := by dsimp only [dats]
/-- What a step leaves in window 4. -/
theorem after4 (c : Dev nD) (t : Fin cfg0.N) : (dats m 0 c).after 4 t = iblk m c 4 t := by dsimp only [dats]
/-- What a step leaves in window 5. -/
theorem after5 (c : Dev nD) (t : Fin cfg0.N) : (dats m 0 c).after 5 t = iblk m c 5 t := by dsimp only [dats]
/-- What a step leaves in window 6. -/
theorem after6 (c : Dev nD) (t : Fin cfg0.N) : (dats m 0 c).after 6 t = iblk m c 6 t := by dsimp only [dats]
/-- What a step leaves in window 7. -/
theorem after7 (c : Dev nD) (t : Fin cfg0.N) : (dats m 0 c).after 7 t = iblk m c 7 t := by dsimp only [dats]
/-- What a step leaves in window 8. -/
theorem after8 (c : Dev nD) (t : Fin cfg0.N) : (dats m 0 c).after 8 t = iblk m c 8 t := by dsimp only [dats]
/-- What a step leaves in window 9. -/
theorem after9 (c : Dev nD) (t : Fin cfg0.N) : (dats m 0 c).after 9 t = iblk m c 9 t := by dsimp only [dats]
/-- What a step leaves in window 10. -/
theorem after10 (c : Dev nD) (t : Fin cfg0.N) : (dats m 0 c).after 10 t = iblk m c 10 t := by dsimp only [dats]
/-- What a step leaves in window 11. -/
theorem after11 (c : Dev nD) (t : Fin cfg0.N) : (dats m 0 c).after 11 t = iblk m c 11 t := by dsimp only [dats]
/-- What a step leaves in window 12. -/
theorem after12 (c : Dev nD) (t : Fin cfg0.N) : (dats m 0 c).after 12 t = iblk m c 12 t := by dsimp only [dats]
/-- What a step leaves in window 13. -/
theorem after13 (c : Dev nD) (t : Fin cfg0.N) : (dats m 0 c).after 13 t = iblk m c 13 t := by dsimp only [dats]
/-- What a step leaves in window 14. -/
theorem after14 (c : Dev nD) (t : Fin cfg0.N) : (dats m 0 c).after 14 t = iblk m c 14 t := by dsimp only [dats]
/-- What a step leaves in window 15. -/
theorem after15 (c : Dev nD) (t : Fin cfg0.N) : (dats m 0 c).after 15 t = iblk m c 15 t := by dsimp only [dats]
/-- What a step leaves in window 16. -/
theorem after16 (c : Dev nD) (t : Fin cfg0.N) : (dats m 0 c).after 16 t = iblk m c 16 t := by dsimp only [dats]
/-- What a step leaves in window 17. -/
theorem after17 (c : Dev nD) (t : Fin cfg0.N) : (dats m 0 c).after 17 t = iblk m c 17 t := by dsimp only [dats]
/-- What a step leaves in window 18. -/
theorem after18 (c : Dev nD) (t : Fin cfg0.N) : (dats m 0 c).after 18 t = iblk m c 18 t := by dsimp only [dats]
/-- What a step leaves in window 19. -/
theorem after19 (c : Dev nD) (t : Fin cfg0.N) : (dats m 0 c).after 19 t = outAt m c t := by dsimp only [dats]

/-- What a step finds in window 0. -/
theorem before0 (c : Dev nD) (t : Fin cfg0.N) (d) : (dats m 0 c).before 0 t d = iblk m c 0 t :=
  before0_0_of m (dats m 0 c) (A_eq m c 0) (after0 m c) t d
/-- What a step finds in window 1. -/
theorem before1 (c : Dev nD) (t : Fin cfg0.N) (d) : (dats m 0 c).before 1 t d = iblk m c 1 t :=
  before0_1_of m (dats m 0 c) (A_eq m c 1) (after1 m c) t d
/-- What a step finds in window 2. -/
theorem before2 (c : Dev nD) (t : Fin cfg0.N) (d) : (dats m 0 c).before 2 t d = iblk m c 2 t :=
  before0_2_of m (dats m 0 c) (A_eq m c 2) (after2 m c) t d
/-- What a step finds in window 3. -/
theorem before3 (c : Dev nD) (t : Fin cfg0.N) (d) : (dats m 0 c).before 3 t d = iblk m c 3 t :=
  before0_3_of m (dats m 0 c) (A_eq m c 3) (after3 m c) t d
/-- What a step finds in window 4. -/
theorem before4 (c : Dev nD) (t : Fin cfg0.N) (d) : (dats m 0 c).before 4 t d = iblk m c 4 t :=
  before0_4_of m (dats m 0 c) (A_eq m c 4) (after4 m c) t d
/-- What a step finds in window 5. -/
theorem before5 (c : Dev nD) (t : Fin cfg0.N) (d) : (dats m 0 c).before 5 t d = iblk m c 5 t :=
  before0_5_of m (dats m 0 c) (A_eq m c 5) (after5 m c) t d
/-- What a step finds in window 6. -/
theorem before6 (c : Dev nD) (t : Fin cfg0.N) (d) : (dats m 0 c).before 6 t d = iblk m c 6 t :=
  before0_6_of m (dats m 0 c) (A_eq m c 6) (after6 m c) t d
/-- What a step finds in window 7. -/
theorem before7 (c : Dev nD) (t : Fin cfg0.N) (d) : (dats m 0 c).before 7 t d = iblk m c 7 t :=
  before0_7_of m (dats m 0 c) (A_eq m c 7) (after7 m c) t d
/-- What a step finds in window 8. -/
theorem before8 (c : Dev nD) (t : Fin cfg0.N) (d) : (dats m 0 c).before 8 t d = iblk m c 8 t :=
  before0_8_of m (dats m 0 c) (A_eq m c 8) (after8 m c) t d
/-- What a step finds in window 9. -/
theorem before9 (c : Dev nD) (t : Fin cfg0.N) (d) : (dats m 0 c).before 9 t d = iblk m c 9 t :=
  before0_9_of m (dats m 0 c) (A_eq m c 9) (after9 m c) t d
/-- What a step finds in window 10. -/
theorem before10 (c : Dev nD) (t : Fin cfg0.N) (d) : (dats m 0 c).before 10 t d = iblk m c 10 t :=
  before0_10_of m (dats m 0 c) (A_eq m c 10) (after10 m c) t d
/-- What a step finds in window 11. -/
theorem before11 (c : Dev nD) (t : Fin cfg0.N) (d) : (dats m 0 c).before 11 t d = iblk m c 11 t :=
  before0_11_of m (dats m 0 c) (A_eq m c 11) (after11 m c) t d
/-- What a step finds in window 12. -/
theorem before12 (c : Dev nD) (t : Fin cfg0.N) (d) : (dats m 0 c).before 12 t d = iblk m c 12 t :=
  before0_12_of m (dats m 0 c) (A_eq m c 12) (after12 m c) t d
/-- What a step finds in window 13. -/
theorem before13 (c : Dev nD) (t : Fin cfg0.N) (d) : (dats m 0 c).before 13 t d = iblk m c 13 t :=
  before0_13_of m (dats m 0 c) (A_eq m c 13) (after13 m c) t d
/-- What a step finds in window 14. -/
theorem before14 (c : Dev nD) (t : Fin cfg0.N) (d) : (dats m 0 c).before 14 t d = iblk m c 14 t :=
  before0_14_of m (dats m 0 c) (A_eq m c 14) (after14 m c) t d
/-- What a step finds in window 15. -/
theorem before15 (c : Dev nD) (t : Fin cfg0.N) (d) : (dats m 0 c).before 15 t d = iblk m c 15 t :=
  before0_15_of m (dats m 0 c) (A_eq m c 15) (after15 m c) t d
/-- What a step finds in window 16. -/
theorem before16 (c : Dev nD) (t : Fin cfg0.N) (d) : (dats m 0 c).before 16 t d = iblk m c 16 t :=
  before0_16_of m (dats m 0 c) (A_eq m c 16) (after16 m c) t d
/-- What a step finds in window 17. -/
theorem before17 (c : Dev nD) (t : Fin cfg0.N) (d) : (dats m 0 c).before 17 t d = iblk m c 17 t :=
  before0_17_of m (dats m 0 c) (A_eq m c 17) (after17 m c) t d
/-- What a step finds in window 18. -/
theorem before18 (c : Dev nD) (t : Fin cfg0.N) (d) : (dats m 0 c).before 18 t d = iblk m c 18 t :=
  before0_18_of m (dats m 0 c) (A_eq m c 18) (after18 m c) t d

/-- What a step hands on of window 0. -/
theorem leaves0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0]
/-- What a step hands on of window 1. -/
theorem leaves1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after1]
/-- What a step hands on of window 2. -/
theorem leaves2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after2]
/-- What a step hands on of window 3. -/
theorem leaves3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after3]
/-- What a step hands on of window 4. -/
theorem leaves4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after4]
/-- What a step hands on of window 5. -/
theorem leaves5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after5]
/-- What a step hands on of window 6. -/
theorem leaves6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after6]
/-- What a step hands on of window 7. -/
theorem leaves7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after7]
/-- What a step hands on of window 8. -/
theorem leaves8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after8]
/-- What a step hands on of window 9. -/
theorem leaves9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after9]
/-- What a step hands on of window 10. -/
theorem leaves10 (c : Dev nD) (t : Fin cfg0.N) : (dats m 0 c).leavesExact 10 t = owns (c : Thread nD τ) (ms0_10 t) fullShare (iblk m c 10 t) := by
  unfold Dat.leavesExact; rw [show cfg0.idle 10 (grid0.coords t) = false from rfl, after10]
/-- What a step hands on of window 11. -/
theorem leaves11 (c : Dev nD) (t : Fin cfg0.N) : (dats m 0 c).leavesExact 11 t = owns (c : Thread nD τ) (ms0_11 t) fullShare (iblk m c 11 t) := by
  unfold Dat.leavesExact; rw [show cfg0.idle 11 (grid0.coords t) = false from rfl, after11]
/-- What a step hands on of window 12. -/
theorem leaves12 (c : Dev nD) (t : Fin cfg0.N) : (dats m 0 c).leavesExact 12 t = owns (c : Thread nD τ) (ms0_12 t) fullShare (iblk m c 12 t) := by
  unfold Dat.leavesExact; rw [show cfg0.idle 12 (grid0.coords t) = false from rfl, after12]
/-- What a step hands on of window 13. -/
theorem leaves13 (c : Dev nD) (t : Fin cfg0.N) : (dats m 0 c).leavesExact 13 t = owns (c : Thread nD τ) (ms0_13 t) fullShare (iblk m c 13 t) := by
  unfold Dat.leavesExact; rw [show cfg0.idle 13 (grid0.coords t) = false from rfl, after13]
/-- What a step hands on of window 14. -/
theorem leaves14 (c : Dev nD) (t : Fin cfg0.N) : (dats m 0 c).leavesExact 14 t = owns (c : Thread nD τ) (ms0_14 t) fullShare (iblk m c 14 t) := by
  unfold Dat.leavesExact; rw [show cfg0.idle 14 (grid0.coords t) = false from rfl, after14]
/-- What a step hands on of window 15. -/
theorem leaves15 (c : Dev nD) (t : Fin cfg0.N) : (dats m 0 c).leavesExact 15 t = owns (c : Thread nD τ) (ms0_15 t) fullShare (iblk m c 15 t) := by
  unfold Dat.leavesExact; rw [show cfg0.idle 15 (grid0.coords t) = false from rfl, after15]
/-- What a step hands on of window 16. -/
theorem leaves16 (c : Dev nD) (t : Fin cfg0.N) : (dats m 0 c).leavesExact 16 t = owns (c : Thread nD τ) (ms0_16 t) fullShare (iblk m c 16 t) := by
  unfold Dat.leavesExact; rw [show cfg0.idle 16 (grid0.coords t) = false from rfl, after16]
/-- What a step hands on of window 17. -/
theorem leaves17 (c : Dev nD) (t : Fin cfg0.N) : (dats m 0 c).leavesExact 17 t = owns (c : Thread nD τ) (ms0_17 t) fullShare (iblk m c 17 t) := by
  unfold Dat.leavesExact; rw [show cfg0.idle 17 (grid0.coords t) = false from rfl, after17]
/-- What a step hands on of window 18. -/
theorem leaves18 (c : Dev nD) (t : Fin cfg0.N) : (dats m 0 c).leavesExact 18 t = owns (c : Thread nD τ) (ms0_18 t) fullShare (iblk m c 18 t) := by
  unfold Dat.leavesExact; rw [show cfg0.idle 18 (grid0.coords t) = false from rfl, after18]

/-- At every point but the last the output window is idle and not written back. -/
theorem idle19 : ∀ t : Fin cfg0.N, ¬cond0_1 (grid0.coords t) → cfg0.idle 19 (grid0.coords t) = true := by decide +kernel
/-- The output block is written back at the last step only. -/
theorem noFlush19 : ∀ t : Fin cfg0.N, ¬cond0_1 (grid0.coords t) → (cfg0.win 19).flush t = false := by decide +kernel
/-- At the last point the output window is live. -/
theorem live19 : ∀ t : Fin cfg0.N, cond0_1 (grid0.coords t) → cfg0.idle 19 (grid0.coords t) = false := by decide +kernel

/-- What a step hands on of window 19. -/
theorem leaves19 (c : Dev nD) (t : Fin cfg0.N) (h : cond0_1 (grid0.coords t)) : (dats m 0 c).leavesExact 19 t = owns (c : Thread nD τ) (ms0_19 t) fullShare (outAt m c t) := by
  unfold Dat.leavesExact; rw [live19 t h, after19]

/-- What is held before a step. -/
theorem inv_castSucc (c : Dev nD) (t : Fin cfg0.N) : (dats m 0 c).Φ t.castSucc = inv m c t.val := by
  dsimp only [dats]; exact Pipeline.Dat.Φ_castSucc (fun n (_ : n ≤ cfg0.N) => inv m c n) t

/-- What is held after a step. -/
theorem inv_succ (c : Dev nD) (t : Fin cfg0.N) : (dats m 0 c).Φ t.succ = scrOwned c (scrAt m c t.val) := rfl

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 4000000 in
/-- The body at the first kind of point, from what it is given to what it leaves. -/
theorem bodyA (c : Dev nD) (t : Fin cfg0.N) (hc0 : cond0_0 (grid0.coords t)) (hc1 : ¬cond0_1 (grid0.coords t)) (hz : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl, inv_succ, inv_castSucc]
  simp only [leaves0, leaves1, leaves2, leaves3, leaves4, leaves5, leaves6, leaves7, leaves8, leaves9, leaves10, leaves11, leaves12, leaves13, leaves14, leaves15, leaves16, leaves17, leaves18]
  rw [Dat.leavesExact_idle (dats m 0 c) 19 t (idle19 t hc1) (noFlush19 t hc1)]
  rw [show inv m c t.val = Pipeline.ΦA spec0 c from by rw [hz]; rfl, PhiA0_eq, scrAt_first m c t hz]
  unfold scrOwned scrStep scrInit; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runA c (grid0.coords t) _ _ _ _ _ _ _ _ _ _ _ _ _ _ _ _ _ _ _ _ _ _ _ _ _ _ _ _ _ _ _ _ _ _ _ _ _ _ _ _ _ _ _ _ _ _ _ _ _ _ _ _ _ _ hc0 hc1 (iblk m c 0 t) (iblk m c 2 t) (iblk m c 3 t) (iblk m c 6 t) (iblk m c 7 t) (iblk m c 8 t) (iblk m c 9 t) (iblk m c 18 t) Set.univ _)
  isplitl [H0]; · iexact H0
  isplitl [H2]; · iexact H2
  isplitl [H3]; · iexact H3
  isplitl [H6]; · iexact H6
  isplitl [H7]; · iexact H7
  isplitl [H8]; · iexact H8
  isplitl [H9]; · iexact H9
  isplitl [H18]; · iexact H18
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H2, H3, H6, H7, H8, H9, H18, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists _; iexact H19

set_option maxHeartbeats 4000000 in
/-- The body at the middle kind of point, from what it is given to what it leaves. -/
theorem bodyB (c : Dev nD) (t : Fin cfg0.N) (hc0 : ¬cond0_0 (grid0.coords t)) (hc1 : ¬cond0_1 (grid0.coords t)) (n : ℕ) (hn : t.val = n + 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl, inv_succ, inv_castSucc]
  simp only [leaves0, leaves1, leaves2, leaves3, leaves4, leaves5, leaves6, leaves7, leaves8, leaves9, leaves10, leaves11, leaves12, leaves13, leaves14, leaves15, leaves16, leaves17, leaves18]
  rw [Dat.leavesExact_idle (dats m 0 c) 19 t (idle19 t hc1) (noFlush19 t hc1)]
  rw [show inv m c t.val = scrOwned c (scrAt m c n) from by rw [hn]; rfl]
  rw [scrAt_next m c t n hn]
  unfold scrOwned scrStep; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runB c (grid0.coords t) _ _ _ _ _ _ _ _ _ _ _ _ _ _ _ _ _ _ _ _ _ _ _ _ _ _ _ _ _ _ _ _ _ _ _ _ _ _ _ _ _ _ _ _ _ _ _ _ _ _ _ _ _ _ hc0 hc1 (iblk m c 0 t) (iblk m c 2 t) (iblk m c 3 t) (scrAt m c n).qk (scrAt m c n).qbk (scrAt m c n).mx (scrAt m c n).z (scrAt m c n).s (scrAt m c n).d Set.univ _)
  isplitl [H0]; · iexact H0
  isplitl [H2]; · iexact H2
  isplitl [H3]; · iexact H3
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H2, H3, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexists _; iexact H19

set_option maxHeartbeats 4000000 in
/-- The body at the last kind of point, from what it is given to what it leaves. -/
theorem bodyC (c : Dev nD) (t : Fin cfg0.N) (hc0 : ¬cond0_0 (grid0.coords t)) (hc1 : cond0_1 (grid0.coords t)) (n : ℕ) (hn : t.val = n + 1) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl, inv_succ, inv_castSucc]
  simp only [leaves0, leaves1, leaves2, leaves3, leaves4, leaves5, leaves6, leaves7, leaves8, leaves9, leaves10, leaves11, leaves12, leaves13, leaves14, leaves15, leaves16, leaves17, leaves18]
  rw [leaves19 m c t hc1]
  rw [show inv m c t.val = scrOwned c (scrAt m c n) from by rw [hn]; rfl]
  unfold outAt
  rw [scrAt_next m c t n hn]
  unfold scrOwned scrStep; dsimp only
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (runC c (grid0.coords t) _ _ _ _ _ _ _ _ _ _ _ _ _ _ _ _ _ _ _ _ _ _ _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 10 t) (iblk m c 11 t) (iblk m c 12 t) (iblk m c 13 t) (iblk m c 14 t) (iblk m c 15 t) (iblk m c 16 t) (iblk m c 17 t) (iblk m c 18 t) (scrAt m c n).qk (scrAt m c n).qbk (scrAt m c n).mx (scrAt m c n).z (scrAt m c n).s (scrAt m c n).d Set.univ _)
  isplitl [H0]; · iexact H0
  isplitl [H1]; · iexact H1
  isplitl [H2]; · iexact H2
  isplitl [H3]; · iexact H3
  isplitl [H4]; · iexact H4
  isplitl [H5]; · iexact H5
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H10, H11, H12, H13, H14, H15, H16, H17, H18, H19, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body at every point. -/
theorem sound_body (c : Dev nD) (t : Fin cfg0.N) :
    bodyPre m c t ⊢ wp frame (wpE (defs₀ (F := F)) Variants.none c none) Set.univ (bodyAt0 t) (fun _ => bodyPost m c t) := by
  have hN : t.val < 128 := lt_of_lt_of_eq t.isLt N_0
  by_cases h0 : t.val % 128 = 0
  · exact bodyA m c t ((hcond0_0 t).mpr h0) (fun h => by have := (hcond0_1 t).mp h; omega) (by omega)
  · obtain ⟨n, hn⟩ : ∃ n, t.val = n + 1 := ⟨t.val - 1, by omega⟩
    by_cases h1 : t.val % 128 = 127
    · exact bodyC m c t (fun h => h0 ((hcond0_0 t).mp h)) ((hcond0_1 t).mpr h1) n hn
    · exact bodyB m c t (fun h => h0 ((hcond0_0 t).mp h)) (fun h => h1 ((hcond0_1 t).mp h)) n hn

/-- One step's body, as the launch's table lists it. -/
theorem body_row (t : Fin cfg0.N) :
    defs₀ (F := F) .tc cfg0.body (cfg0.bodyArgs t (cfg0.slots t)) = bodyAt0 t := by
  unfold defs₀; rw [Defs.onTc_tc]

/-- The body obligation of the launch. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands in is what is held before the first step. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- What is held after the last step is what the launch hands back. -/
theorem hout (c : Dev nD) : (dats m 0 c).Φ (Fin.last cfg0.N) ⊢ Pipeline.ΦA spec0 c := by
  rw [show (dats m 0 c).Φ (Fin.last cfg0.N) = scrOwned c (scrAt m c 127) from by
    show inv m c (Fin.last cfg0.N).val = _
    rw [Fin.val_last, show cfg0.N = 127 + 1 from N_0]; rfl, PhiA0_eq]
  unfold scrOwned
  iintro ⟨⟨HS0, HS1, HS2, HS3, HS4, HS5, HS6⟩, Hg⟩
  isplitl [HS0 HS1 HS2 HS3 HS4 HS5 HS6]
  · isplitl [HS0]
    · iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    iexists _; iexact HS6
  iexact Hg

set_option backward.isDefEq.respectTransparency.types false in
/-- The run of the whole program: every array of the launch ends at what its write-backs leave, every other buffer as it was at entry, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The output array after the run. -/
def result (c : Dev nD) : Buf (Elt F) ((c : Thread nD τ).loc main_v32) := (dats m 0 c).arrAt 19 cfg0.N

/-- The run: the result array ends at `result`, the arguments unchanged, the counters at zero. -/
theorem run : θ_run defs (onTc (τ := τ) (main (F := F))) ⟨m, fun _ => 0, ρ⟩ (fun r => (∀ c : Dev nD,
      r.2.mem ((c.tc : Thread nD τ).loc main_v32) = result m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20) ∧ r.2.mem ((c.tc : Thread nD τ).loc main_arg21) = m ((c.tc : Thread nD τ).loc main_arg21)) ∧ r.2.sem = fun _ => 0) :=
  (θ_run defs _ _).mono (fun r h => ⟨fun c => ⟨(h.1 c).1 19,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 10).trans (((dats m 0 c).arrAt_in 10 rfl _).trans ((A_eq m c 10).trans (V_main_arg6 m c))),
      ((h.1 c).2 main_arg7 (Pipeline.mem_restRefs_of main_arg7 (by decide) (by decide))).trans (V_main_arg7 m c),
      ((h.1 c).1 12).trans (((dats m 0 c).arrAt_in 12 rfl _).trans ((A_eq m c 12).trans (V_main_arg8 m c))),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c),
      ((h.1 c).2 main_arg20 (Pipeline.mem_restRefs_of main_arg20 (by decide) (by decide))).trans (V_main_arg20 m c),
      ((h.1 c).2 main_arg21 (Pipeline.mem_restRefs_of main_arg21 (by decide) (by decide))).trans (V_main_arg21 m c)⟩, h.2⟩) (run_all m ρ)

/-- The frame claim: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20) ∧ r.2.mem ((c.tc : Thread nD τ).loc main_arg21) = m ((c.tc : Thread nD τ).loc main_arg21)) ∧ r.2.sem = fun _ => 0) :=
  (θ_run defs _ _).mono (fun r h => ⟨fun c => (h.1 c).2, h.2⟩) (run m ρ)

end Cert.KernelIdeal.Hand

end
-- ==== Proof.KernelIdealBlocks.lean ====
/- What the kernel's windows and host lines hand to its body, at the arrays the run starts from. -/
module

public import proofs.«01_k».proof.Proof.KernelIdealFrame
public import Idealize.ShloMosaic.Lib.Pipeline.Value
public import Idealize.ShloMosaic.Lib.Pipeline.ValueKit
public import Idealize.ShloMosaic.Lib.Claim
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

/-- The launch's array of a reference. -/
abbrev arr (c : Dev nD) (b : Ref sig .tc) : Buf (Elt F) ((c : Thread nD τ).loc b) := m ((c : Thread nD τ).loc b)

/-- Where an entry of window 0's block lies in its array. -/
theorem emb0 (t : Fin cfg0.N) (j : S128x128.Idx) : ((cfg0.win 0).blk t).view.emb j = j := by
  have e : ∀ s : Fin grid0.N, win0_0.index s 0 = 0 ∧ win0_0.index s 1 = 0 := by decide +kernel
  funext a
  apply Fin.ext
  fin_cases a
  · show win0_0.index t 0 * 128 + 1 * (j 0).val = (j 0).val
    rw [(e t).1]; omega
  · show win0_0.index t 1 * 128 + 1 * (j 1).val = (j 1).val
    rw [(e t).2]; omega

/-- Window 0's block is its whole array. -/
theorem iblk0 (c : Dev nD) (t : Fin cfg0.N) : iblk m c 0 t = arr m c main_arg0 := by
  funext j
  show V m c main_arg0 (((cfg0.win 0).blk t).view.emb j) = _
  rw [emb0, V_main_arg0]

/-- Where an entry of window 1's block lies in its array. -/
theorem emb1 (t : Fin cfg0.N) (j : S128x128.Idx) : ((cfg0.win 1).blk t).view.emb j = j := by
  have e : ∀ s : Fin grid0.N, win0_1.index s 0 = 0 ∧ win0_1.index s 1 = 0 := by decide +kernel
  funext a
  apply Fin.ext
  fin_cases a
  · show win0_1.index t 0 * 128 + 1 * (j 0).val = (j 0).val
    rw [(e t).1]; omega
  · show win0_1.index t 1 * 128 + 1 * (j 1).val = (j 1).val
    rw [(e t).2]; omega

/-- Window 1's block is its whole array. -/
theorem iblk1 (c : Dev nD) (t : Fin cfg0.N) : iblk m c 1 t = arr m c main_arg1 := by
  funext j
  show V m c main_arg1 (((cfg0.win 1).blk t).view.emb j) = _
  rw [emb1, V_main_arg1]

/-- Where an entry of window 2's block lies in its array. -/
theorem emb2 (t : Fin cfg0.N) (r : Fin 512) (k : Fin 128) (h : 512 * t.val + r.val < 65536) :
    ((cfg0.win 2).blk t).view.emb (ix2 r k : S512x128.Idx) = (ix2 ⟨512 * t.val + r.val, h⟩ k : S65536x128.Idx) := by
  have e : ∀ s : Fin grid0.N, win0_2.index s 0 = s.val ∧ win0_2.index s 1 = 0 := by decide +kernel
  funext a
  apply Fin.ext
  fin_cases a
  · show win0_2.index t 0 * 512 + 1 * r.val = 512 * t.val + r.val
    rw [(e t).1]; omega
  · show win0_2.index t 1 * 128 + 1 * k.val = k.val
    rw [(e t).2]; omega

/-- Window 2's block at point `t` is rows `512 t` to `512 t + 511` of its array. -/
theorem iblk2 (c : Dev nD) (t : Fin cfg0.N) (r : Fin 512) (k : Fin 128) (h : 512 * t.val + r.val < 65536) :
    iblk m c 2 t (ix2 r k : S512x128.Idx) = arr m c main_arg2 (ix2 ⟨512 * t.val + r.val, h⟩ k : S65536x128.Idx) := by
  show V m c main_arg2 (((cfg0.win 2).blk t).view.emb _) = _
  rw [emb2 t r k h, V_main_arg2]

/-- Where an entry of window 3's block lies in its array. -/
theorem emb3 (t : Fin cfg0.N) (r : Fin 512) (k : Fin 128) (h : 512 * t.val + r.val < 65536) :
    ((cfg0.win 3).blk t).view.emb (ix2 r k : S512x128.Idx) = (ix2 ⟨512 * t.val + r.val, h⟩ k : S65536x128.Idx) := by
  have e : ∀ s : Fin grid0.N, win0_3.index s 0 = s.val ∧ win0_3.index s 1 = 0 := by decide +kernel
  funext a
  apply Fin.ext
  fin_cases a
  · show win0_3.index t 0 * 512 + 1 * r.val = 512 * t.val + r.val
    rw [(e t).1]; omega
  · show win0_3.index t 1 * 128 + 1 * k.val = k.val
    rw [(e t).2]; omega

/-- Window 3's block at point `t` is rows `512 t` to `512 t + 511` of its array. -/
theorem iblk3 (c : Dev nD) (t : Fin cfg0.N) (r : Fin 512) (k : Fin 128) (h : 512 * t.val + r.val < 65536) :
    iblk m c 3 t (ix2 r k : S512x128.Idx) = arr m c main_arg3 (ix2 ⟨512 * t.val + r.val, h⟩ k : S65536x128.Idx) := by
  show V m c main_arg3 (((cfg0.win 3).blk t).view.emb _) = _
  rw [emb3 t r k h, V_main_arg3]

/-- Where an entry of window 4's block lies in its array. -/
theorem emb4 (t : Fin cfg0.N) (j : S128x128.Idx) : ((cfg0.win 4).blk t).view.emb j = j := by
  have e : ∀ s : Fin grid0.N, win0_4.index s 0 = 0 ∧ win0_4.index s 1 = 0 := by decide +kernel
  funext a
  apply Fin.ext
  fin_cases a
  · show win0_4.index t 0 * 128 + 1 * (j 0).val = (j 0).val
    rw [(e t).1]; omega
  · show win0_4.index t 1 * 128 + 1 * (j 1).val = (j 1).val
    rw [(e t).2]; omega

/-- Window 4's block is its whole array. -/
theorem iblk4 (c : Dev nD) (t : Fin cfg0.N) : iblk m c 4 t = V m c main_v4 := by
  funext j
  show V m c main_v4 (((cfg0.win 4).blk t).view.emb j) = _
  rw [emb4]

/-- Where an entry of window 5's block lies in its array. -/
theorem emb5 (t : Fin cfg0.N) (j : S128x128.Idx) : ((cfg0.win 5).blk t).view.emb j = j := by
  have e : ∀ s : Fin grid0.N, win0_5.index s 0 = 0 ∧ win0_5.index s 1 = 0 := by decide +kernel
  funext a
  apply Fin.ext
  fin_cases a
  · show win0_5.index t 0 * 128 + 1 * (j 0).val = (j 0).val
    rw [(e t).1]; omega
  · show win0_5.index t 1 * 128 + 1 * (j 1).val = (j 1).val
    rw [(e t).2]; omega

/-- Window 5's block is its whole array. -/
theorem iblk5 (c : Dev nD) (t : Fin cfg0.N) : iblk m c 5 t = V m c main_v5 := by
  funext j
  show V m c main_v5 (((cfg0.win 5).blk t).view.emb j) = _
  rw [emb5]

/-- Where an entry of window 6's block lies in its array. -/
theorem emb6 (t : Fin cfg0.N) (j : S128x136.Idx) : ((cfg0.win 6).blk t).view.emb j = j := by
  have e : ∀ s : Fin grid0.N, win0_6.index s 0 = 0 ∧ win0_6.index s 1 = 0 := by decide +kernel
  funext a
  apply Fin.ext
  fin_cases a
  · show win0_6.index t 0 * 128 + 1 * (j 0).val = (j 0).val
    rw [(e t).1]; omega
  · show win0_6.index t 1 * 136 + 1 * (j 1).val = (j 1).val
    rw [(e t).2]; omega

/-- Window 6's block is its whole array. -/
theorem iblk6 (c : Dev nD) (t : Fin cfg0.N) : iblk m c 6 t = V m c main_v6 := by
  funext j
  show V m c main_v6 (((cfg0.win 6).blk t).view.emb j) = _
  rw [emb6]

/-- Where an entry of window 7's block lies in its array. -/
theorem emb7 (t : Fin cfg0.N) (j : S1x136.Idx) : ((cfg0.win 7).blk t).view.emb j = j := by
  have e : ∀ s : Fin grid0.N, win0_7.index s 0 = 0 ∧ win0_7.index s 1 = 0 := by decide +kernel
  funext a
  apply Fin.ext
  fin_cases a
  · show win0_7.index t 0 * 1 + 1 * (j 0).val = (j 0).val
    rw [(e t).1]; omega
  · show win0_7.index t 1 * 136 + 1 * (j 1).val = (j 1).val
    rw [(e t).2]; omega

/-- Window 7's block is its whole array. -/
theorem iblk7 (c : Dev nD) (t : Fin cfg0.N) : iblk m c 7 t = V m c main_v9 := by
  funext j
  show V m c main_v9 (((cfg0.win 7).blk t).view.emb j) = _
  rw [emb7]

/-- Where an entry of window 8's block lies in its array. -/
theorem emb8 (t : Fin cfg0.N) (j : S128x136.Idx) : ((cfg0.win 8).blk t).view.emb j = j := by
  have e : ∀ s : Fin grid0.N, win0_8.index s 0 = 0 ∧ win0_8.index s 1 = 0 := by decide +kernel
  funext a
  apply Fin.ext
  fin_cases a
  · show win0_8.index t 0 * 128 + 1 * (j 0).val = (j 0).val
    rw [(e t).1]; omega
  · show win0_8.index t 1 * 136 + 1 * (j 1).val = (j 1).val
    rw [(e t).2]; omega

/-- Window 8's block is its whole array. -/
theorem iblk8 (c : Dev nD) (t : Fin cfg0.N) : iblk m c 8 t = V m c main_v10 := by
  funext j
  show V m c main_v10 (((cfg0.win 8).blk t).view.emb j) = _
  rw [emb8]

/-- Where an entry of window 9's block lies in its array. -/
theorem emb9 (t : Fin cfg0.N) (j : S1x136.Idx) : ((cfg0.win 9).blk t).view.emb j = j := by
  have e : ∀ s : Fin grid0.N, win0_9.index s 0 = 0 ∧ win0_9.index s 1 = 0 := by decide +kernel
  funext a
  apply Fin.ext
  fin_cases a
  · show win0_9.index t 0 * 1 + 1 * (j 0).val = (j 0).val
    rw [(e t).1]; omega
  · show win0_9.index t 1 * 136 + 1 * (j 1).val = (j 1).val
    rw [(e t).2]; omega

/-- Window 9's block is its whole array. -/
theorem iblk9 (c : Dev nD) (t : Fin cfg0.N) : iblk m c 9 t = V m c main_v13 := by
  funext j
  show V m c main_v13 (((cfg0.win 9).blk t).view.emb j) = _
  rw [emb9]

/-- Where an entry of window 10's block lies in its array. -/
theorem emb10 (t : Fin cfg0.N) (j : S128x128.Idx) : ((cfg0.win 10).blk t).view.emb j = j := by
  have e : ∀ s : Fin grid0.N, win0_10.index s 0 = 0 ∧ win0_10.index s 1 = 0 := by decide +kernel
  funext a
  apply Fin.ext
  fin_cases a
  · show win0_10.index t 0 * 128 + 1 * (j 0).val = (j 0).val
    rw [(e t).1]; omega
  · show win0_10.index t 1 * 128 + 1 * (j 1).val = (j 1).val
    rw [(e t).2]; omega

/-- Window 10's block is its whole array. -/
theorem iblk10 (c : Dev nD) (t : Fin cfg0.N) : iblk m c 10 t = arr m c main_arg6 := by
  funext j
  show V m c main_arg6 (((cfg0.win 10).blk t).view.emb j) = _
  rw [emb10, V_main_arg6]

/-- Where an entry of window 11's block lies in its array. -/
theorem emb11 (t : Fin cfg0.N) (j : S1x128.Idx) : ((cfg0.win 11).blk t).view.emb j = j := by
  have e : ∀ s : Fin grid0.N, win0_11.index s 0 = 0 ∧ win0_11.index s 1 = 0 := by decide +kernel
  funext a
  apply Fin.ext
  fin_cases a
  · show win0_11.index t 0 * 1 + 1 * (j 0).val = (j 0).val
    rw [(e t).1]; omega
  · show win0_11.index t 1 * 128 + 1 * (j 1).val = (j 1).val
    rw [(e t).2]; omega

/-- Window 11's block is its whole array. -/
theorem iblk11 (c : Dev nD) (t : Fin cfg0.N) : iblk m c 11 t = V m c main_v30 := by
  funext j
  show V m c main_v30 (((cfg0.win 11).blk t).view.emb j) = _
  rw [emb11]

/-- Where an entry of window 12's block lies in its array. -/
theorem emb12 (t : Fin cfg0.N) (j : S128x128.Idx) : ((cfg0.win 12).blk t).view.emb j = j := by
  have e : ∀ s : Fin grid0.N, win0_12.index s 0 = 0 ∧ win0_12.index s 1 = 0 := by decide +kernel
  funext a
  apply Fin.ext
  fin_cases a
  · show win0_12.index t 0 * 128 + 1 * (j 0).val = (j 0).val
    rw [(e t).1]; omega
  · show win0_12.index t 1 * 128 + 1 * (j 1).val = (j 1).val
    rw [(e t).2]; omega

/-- Window 12's block is its whole array. -/
theorem iblk12 (c : Dev nD) (t : Fin cfg0.N) : iblk m c 12 t = arr m c main_arg8 := by
  funext j
  show V m c main_arg8 (((cfg0.win 12).blk t).view.emb j) = _
  rw [emb12, V_main_arg8]

/-- Where an entry of window 13's block lies in its array. -/
theorem emb13 (t : Fin cfg0.N) (j : S1x128.Idx) : ((cfg0.win 13).blk t).view.emb j = j := by
  have e : ∀ s : Fin grid0.N, win0_13.index s 0 = 0 ∧ win0_13.index s 1 = 0 := by decide +kernel
  funext a
  apply Fin.ext
  fin_cases a
  · show win0_13.index t 0 * 1 + 1 * (j 0).val = (j 0).val
    rw [(e t).1]; omega
  · show win0_13.index t 1 * 128 + 1 * (j 1).val = (j 1).val
    rw [(e t).2]; omega

/-- Window 13's block is its whole array. -/
theorem iblk13 (c : Dev nD) (t : Fin cfg0.N) : iblk m c 13 t = V m c main_v31 := by
  funext j
  show V m c main_v31 (((cfg0.win 13).blk t).view.emb j) = _
  rw [emb13]

/-- Where an entry of window 14's block lies in its array. -/
theorem emb14 (t : Fin cfg0.N) (j : S128x136.Idx) : ((cfg0.win 14).blk t).view.emb j = j := by
  have e : ∀ s : Fin grid0.N, win0_14.index s 0 = 0 ∧ win0_14.index s 1 = 0 := by decide +kernel
  funext a
  apply Fin.ext
  fin_cases a
  · show win0_14.index t 0 * 128 + 1 * (j 0).val = (j 0).val
    rw [(e t).1]; omega
  · show win0_14.index t 1 * 136 + 1 * (j 1).val = (j 1).val
    rw [(e t).2]; omega

/-- Window 14's block is its whole array. -/
theorem iblk14 (c : Dev nD) (t : Fin cfg0.N) : iblk m c 14 t = V m c main_v14 := by
  funext j
  show V m c main_v14 (((cfg0.win 14).blk t).view.emb j) = _
  rw [emb14]

/-- Where an entry of window 15's block lies in its array. -/
theorem emb15 (t : Fin cfg0.N) (j : S1x136.Idx) : ((cfg0.win 15).blk t).view.emb j = j := by
  have e : ∀ s : Fin grid0.N, win0_15.index s 0 = 0 ∧ win0_15.index s 1 = 0 := by decide +kernel
  funext a
  apply Fin.ext
  fin_cases a
  · show win0_15.index t 0 * 1 + 1 * (j 0).val = (j 0).val
    rw [(e t).1]; omega
  · show win0_15.index t 1 * 136 + 1 * (j 1).val = (j 1).val
    rw [(e t).2]; omega

/-- Window 15's block is its whole array. -/
theorem iblk15 (c : Dev nD) (t : Fin cfg0.N) : iblk m c 15 t = V m c main_v17 := by
  funext j
  show V m c main_v17 (((cfg0.win 15).blk t).view.emb j) = _
  rw [emb15]

/-- Where an entry of window 16's block lies in its array. -/
theorem emb16 (t : Fin cfg0.N) (j : S136x128.Idx) : ((cfg0.win 16).blk t).view.emb j = j := by
  have e : ∀ s : Fin grid0.N, win0_16.index s 0 = 0 ∧ win0_16.index s 1 = 0 := by decide +kernel
  funext a
  apply Fin.ext
  fin_cases a
  · show win0_16.index t 0 * 136 + 1 * (j 0).val = (j 0).val
    rw [(e t).1]; omega
  · show win0_16.index t 1 * 128 + 1 * (j 1).val = (j 1).val
    rw [(e t).2]; omega

/-- Window 16's block is its whole array. -/
theorem iblk16 (c : Dev nD) (t : Fin cfg0.N) : iblk m c 16 t = V m c main_v18 := by
  funext j
  show V m c main_v18 (((cfg0.win 16).blk t).view.emb j) = _
  rw [emb16]

/-- Where an entry of window 17's block lies in its array. -/
theorem emb17 (t : Fin cfg0.N) (j : S1x128.Idx) : ((cfg0.win 17).blk t).view.emb j = j := by
  have e : ∀ s : Fin grid0.N, win0_17.index s 0 = 0 ∧ win0_17.index s 1 = 0 := by decide +kernel
  funext a
  apply Fin.ext
  fin_cases a
  · show win0_17.index t 0 * 1 + 1 * (j 0).val = (j 0).val
    rw [(e t).1]; omega
  · show win0_17.index t 1 * 128 + 1 * (j 1).val = (j 1).val
    rw [(e t).2]; omega

/-- Window 17's block is its whole array. -/
theorem iblk17 (c : Dev nD) (t : Fin cfg0.N) : iblk m c 17 t = V m c main_v21 := by
  funext j
  show V m c main_v21 (((cfg0.win 17).blk t).view.emb j) = _
  rw [emb17]

/-- Where an entry of window 18's block lies in its array. -/
theorem emb18 (t : Fin cfg0.N) (j : S8x136.Idx) : ((cfg0.win 18).blk t).view.emb j = j := by
  have e : ∀ s : Fin grid0.N, win0_18.index s 0 = 0 ∧ win0_18.index s 1 = 0 := by decide +kernel
  funext a
  apply Fin.ext
  fin_cases a
  · show win0_18.index t 0 * 8 + 1 * (j 0).val = (j 0).val
    rw [(e t).1]; omega
  · show win0_18.index t 1 * 136 + 1 * (j 1).val = (j 1).val
    rw [(e t).2]; omega

/-- Window 18's block is its whole array. -/
theorem iblk18 (c : Dev nD) (t : Fin cfg0.N) : iblk m c 18 t = V m c main_v29 := by
  funext j
  show V m c main_v29 (((cfg0.win 18).blk t).view.emb j) = _
  rw [emb18]

/-- Where an entry of window 19's block lies in its array. -/
theorem emb19 (t : Fin cfg0.N) (j : S128x128.Idx) : ((cfg0.win 19).blk t).view.emb j = j := by
  have e : ∀ s : Fin grid0.N, win0_19.index s 0 = 0 ∧ win0_19.index s 1 = 0 := by decide +kernel
  funext a
  apply Fin.ext
  fin_cases a
  · show win0_19.index t 0 * 128 + 1 * (j 0).val = (j 0).val
    rw [(e t).1]; omega
  · show win0_19.index t 1 * 128 + 1 * (j 1).val = (j 1).val
    rw [(e t).2]; omega

/-- The composed query weights. -/
theorem V_v6 (c : Dev nD) : V m c main_v6 = Host.dotGeneral dot_S128x136_S136x136_S128x136_1_0_0_1_n_n none (arr m c main_arg10) (arr m c main_arg12) := by
  entry_read
  rfl

/-- The composed query bias. -/
theorem V_v9 (c : Dev nD) : V m c main_v9 = shapeCast S1x136 (addf (s := S136) (φ := .f32) (Host.dotGeneral dot_S136_S136x136_S136_0_0_n_1_n_n none (arr m c main_arg11) (arr m c main_arg12)) (arr m c main_arg13)) shapeCasts_S136_S1x136 := by
  entry_read
  rfl

/-- The composed key weights. -/
theorem V_v10 (c : Dev nD) : V m c main_v10 = Host.dotGeneral dot_S128x136_S136x136_S128x136_1_0_0_1_n_n none (arr m c main_arg10) (arr m c main_arg14) := by
  entry_read
  rfl

/-- The composed key bias. -/
theorem V_v13 (c : Dev nD) : V m c main_v13 = shapeCast S1x136 (addf (s := S136) (φ := .f32) (Host.dotGeneral dot_S136_S136x136_S136_0_0_n_1_n_n none (arr m c main_arg11) (arr m c main_arg14)) (arr m c main_arg15)) shapeCasts_S136_S1x136 := by
  entry_read
  rfl

/-- The composed value weights. -/
theorem V_v14 (c : Dev nD) : V m c main_v14 = Host.dotGeneral dot_S128x136_S136x136_S128x136_1_0_0_1_n_n none (arr m c main_arg10) (arr m c main_arg16) := by
  entry_read
  rfl

/-- The composed value bias. -/
theorem V_v17 (c : Dev nD) : V m c main_v17 = shapeCast S1x136 (addf (s := S136) (φ := .f32) (Host.dotGeneral dot_S136_S136x136_S136_0_0_n_1_n_n none (arr m c main_arg11) (arr m c main_arg16)) (arr m c main_arg17)) shapeCasts_S136_S1x136 := by
  entry_read
  rfl

/-- The composed output weights. -/
theorem V_v18 (c : Dev nD) : V m c main_v18 = Host.dotGeneral dot_S136x136_S136x128_S136x128_1_0_0_1_n_n none (arr m c main_arg18) (arr m c main_arg20) := by
  entry_read
  rfl

/-- The composed output bias. -/
theorem V_v21 (c : Dev nD) : V m c main_v21 = shapeCast S1x128 (addf (s := S128) (φ := .f32) (Host.dotGeneral dot_S136_S136x128_S128_0_0_n_1_n_n none (arr m c main_arg19) (arr m c main_arg20)) (arr m c main_arg21)) shapeCasts_S128_S1x128 := by
  entry_read
  rfl

/-- The mask of the heads. -/
theorem V_v29 (c : Dev nD) : V m c main_v29 = shapeCast S8x136 (broadcastInDim S8x8x17 ![0, 1] bcast_S8x8_S8x8x17_0_1 (uitofp (F := F) .f32 (cmpi .eq (addi (iotaInDim S8x8 32 0) (broadcastInDim S8x8 ![] bcast_S_S8x8 (constantI S_ 32 0#32))) (iotaInDim S8x8 32 1)))) shapeCasts_S8x8x17_S8x136 := by
  entry_read
  rfl

/-- The bias of the key encoder as a row. -/
theorem V_v30 (c : Dev nD) : V m c main_v30 = shapeCast S1x128 (arr m c main_arg7) shapeCasts_S128_S1x128 := by
  entry_read
  rfl

/-- The bias of the value encoder as a row. -/
theorem V_v31 (c : Dev nD) : V m c main_v31 = shapeCast S1x128 (arr m c main_arg9) shapeCasts_S128_S1x128 := by
  entry_read
  rfl

/-- An index of the result is in the block of every point: the block is the whole array. -/
theorem covered19 (i : S128x128.Idx) :
    ∃ t : Fin cfg0.N, (cfg0.win 19).flush t = true ∧ i ∈ ((cfg0.win 19).blk t).view.set :=
  ⟨pt 127, (flush0_19 _).2 (show min 127 127 % 128 = 127 by decide), by
    have h := ((cfg0.win 19).blk (pt 127)).view.emb_mem_set i; rwa [emb19] at h⟩

/-- The result array holds what the last point computes. -/
theorem result_eq (c : Dev nD) : result m c = outAt m c (pt 127) :=
  (dats m 0 c).arrAt_eq_of_cover 19 (outAt m c (pt 127)) (fun t hf => by
    have ht : t = pt 127 := by
      have h1 := (flush0_19 t).1 hf
      have h2 : t.val < 128 := lt_of_lt_of_eq t.isLt N_0
      apply Fin.ext
      show t.val = min 127 127
      omega
    subst ht
    funext j
    show outAt m c (pt 127) j = outAt m c (pt 127) (((cfg0.win 19).blk (pt 127)).view.emb j)
    rw [emb19]) covered19

end Cert.KernelIdeal.Hand

end
-- ==== Proof.Math.lean ====
/- The real arithmetic of the kernel's algorithm, over finite index sets. -/
module

public import Idealize.ShloMosaic.PureOps.Ideal
public import Mathlib.Tactic.Ring
public import Mathlib.Tactic.Linarith

@[expose] public section

namespace Cert.Model

open Finset

/-- Two linear layers in a row are one layer, its weights and its bias composed. -/
theorem compose_layers {D A : Type*} [Fintype D] [Fintype A] (x : D → ℝ) (w : D → A → ℝ) (b u : A → ℝ) (v : ℝ) :
    (∑ d, x d * ∑ a, w d a * u a) + ((∑ a, b a * u a) + v) = (∑ a, ((∑ d, x d * w d a) + b a) * u a) + v := by
  rw [← add_assoc]
  congr 1
  simp only [add_mul, Finset.sum_add_distrib, Finset.sum_mul, Finset.mul_sum]
  congr 1
  rw [Finset.sum_comm]
  exact Finset.sum_congr rfl fun a _ => Finset.sum_congr rfl fun d _ => by ring

/-- The score of a key against a query folded into the key's layer: the query times the projected key. -/
theorem fold_query {D C : Type*} [Fintype D] [Fintype C] (q : C → ℝ) (w : D → C → ℝ) (b : C → ℝ) (x : D → ℝ) :
    (∑ d, (∑ c, q c * w d c) * x d) + (∑ c, q c * b c) = ∑ c, q c * ((∑ d, x d * w d c) + b c) := by
  simp only [mul_add, Finset.sum_add_distrib, Finset.sum_mul, Finset.mul_sum]
  congr 1
  rw [Finset.sum_comm]
  exact Finset.sum_congr rfl fun a _ => Finset.sum_congr rfl fun d _ => by ring

/-- Overwriting distinct places of a table changes a sum over the table by the new terms less the old ones. -/
theorem sum_overwrite {B J K : Type*} [Fintype B] [Fintype J] [DecidableEq J] (σ : B → J) (hσ : Function.Injective σ)
    (old new : J → K) (upd : B → K) (hit : ∀ b, new (σ b) = upd b) (miss : ∀ j, (∀ b, σ b ≠ j) → new j = old j)
    (F : K → ℝ) :
    ∑ j, F (new j) = (∑ j, F (old j)) + (∑ b, F (upd b)) - ∑ b, F (old (σ b)) := by
  have h : ∑ j, (F (new j) - F (old j)) = ∑ b, (F (upd b) - F (old (σ b))) := by
    rw [← Finset.sum_subset (Finset.subset_univ (Finset.univ.image σ)), Finset.sum_image (fun a _ b _ h => hσ h)]
    · exact Finset.sum_congr rfl fun b _ => by rw [hit]
    · intro j _ hj
      rw [miss j fun b hb => hj (Finset.mem_image.2 ⟨b, Finset.mem_univ b, hb⟩), sub_self]
  rw [Finset.sum_sub_distrib, Finset.sum_sub_distrib] at h
  linarith

/-- A quotient of sums of exponentials does not depend on the shift of the exponents. -/
theorem softmax_shift {J : Type*} [Fintype J] (s v : J → ℝ) (m m' : ℝ) :
    (∑ j, Real.exp (s j - m) * v j) / (∑ j, Real.exp (s j - m))
      = ∑ j, Real.exp (s j - m') / (∑ i, Real.exp (s i - m')) * v j := by
  have e : ∀ j, Real.exp (s j - m) = Real.exp (m' - m) * Real.exp (s j - m') := fun j => by
    rw [← Real.exp_add]; congr 1; ring
  simp only [e, mul_assoc, ← Finset.mul_sum]
  rw [mul_div_mul_left _ _ (Real.exp_ne_zero _), Finset.sum_div]
  exact Finset.sum_congr rfl fun j _ => by ring

/-- The weights of a softmax add up to one. -/
theorem softmax_sum {J : Type*} [Fintype J] [Nonempty J] (s : J → ℝ) (m : ℝ) :
    ∑ j, Real.exp (s j - m) / (∑ i, Real.exp (s i - m)) = 1 := by
  rw [← Finset.sum_div]
  exact div_self (Finset.sum_pos (fun j _ => Real.exp_pos _) Finset.univ_nonempty).ne'

/-- A weighted mean of the rows of a table, projected by an affine layer, is the weighted mean of the projected rows. -/
theorem project_mean {J D : Type*} [Fintype J] [Fintype D] (p : J → ℝ) (hp : ∑ j, p j = 1) (v : J → D → ℝ) (w : D → ℝ) (b : ℝ) :
    (∑ d, (∑ j, p j * v j d) * w d) + b = ∑ j, p j * ((∑ d, v j d * w d) + b) := by
  simp only [mul_add, Finset.sum_add_distrib, ← Finset.sum_mul, hp, one_mul]
  congr 1
  simp only [Finset.sum_mul, Finset.mul_sum]
  rw [Finset.sum_comm]
  exact Finset.sum_congr rfl fun a _ => Finset.sum_congr rfl fun d _ => by ring

/-- Rescaling a sum of exponentials moves its shift. -/
theorem rescale {J : Type*} (S : Finset J) (s v : J → ℝ) (m m' : ℝ) :
    (∑ j ∈ S, Real.exp (s j - m) * v j) * Real.exp (m - m') = ∑ j ∈ S, Real.exp (s j - m') * v j := by
  rw [Finset.sum_mul]
  refine Finset.sum_congr rfl fun j _ => ?_
  rw [show s j - m' = (s j - m) + (m - m') by ring, Real.exp_add]; ring

/-- A sum over the eight heads that keeps only the head of a column. -/
theorem pick_head {C : Type*} (hd : C → Fin 8) (X : Fin 8 → C → ℝ) (c : C) :
    ∑ h : Fin 8, X h c * (if hd c = h then (1 : ℝ) else 0) = X (hd c) c := by
  simp

end Cert.Model
-- ==== Proof.Reals.lean ====
/- Small facts that move sums and maxima of real numbers among the extended reals. -/
module

public import Idealize.ShloMosaic.PureOps.Ideal
public import Idealize.ShloMosaic.PureOps.Ideal.Laws
public import Idealize.ShloMosaic.Lib.IdealHost
public import Mathlib.Tactic.Ring
public import Mathlib.Tactic.Linarith
public import Mathlib.Tactic.NormNum

@[expose] public section

noncomputable section

namespace Cert.Model

open Idealize.ShloMosaic

/-- A real sum, seen among the extended reals, is the sum of the terms seen there. -/
theorem coe_sum {J : Type*} (S : Finset J) (f : J → ℝ) : ((∑ j ∈ S, f j : ℝ) : EReal) = ∑ j ∈ S, ((f j : ℝ) : EReal) := by
  classical
  induction S using Finset.induction_on with
  | empty => simp
  | insert a s ha ih => rw [Finset.sum_insert ha, Finset.sum_insert ha, EReal.coe_add, ih]

/-- The larger of two reals, seen among the extended reals. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The bits of −∞ denote the least extended real. -/
theorem bits_bot : Ideal.ofBits .f32 0xFF800000#32 = ⊥ := by simp [Ideal.ofBits, Ideal.ieee]

/-- The bits of +∞ denote the greatest extended real. -/
theorem bits_top : Ideal.ofBits .f32 0x7F800000#32 = ⊤ := by simp [Ideal.ofBits, Ideal.ieee]

/-- The bits of 2 denote 2. -/
theorem bits_two : Ideal.ofBits .f32 0x40000000#32 = ((2 : ℝ) : EReal) := by
  simp [Ideal.ofBits, Ideal.ieee]; rw [← EReal.coe_mul]; norm_num

/-- The bits of 10 denote 10. -/
theorem bits_ten : Ideal.ofBits .f32 0x41200000#32 = ((10 : ℝ) : EReal) := by
  simp [Ideal.ofBits, Ideal.ieee]; rw [← EReal.coe_mul]; norm_num

/-- The bits of 17 denote 17. -/
theorem bits_seventeen : Ideal.ofBits .f32 0x41880000#32 = ((17 : ℝ) : EReal) := by
  simp [Ideal.ofBits, Ideal.ieee]; rw [← EReal.coe_mul]; norm_num

/-- The bits of the first running maximum denote some real. -/
theorem bits_start : ∃ c : ℝ, Ideal.ofBits .f32 0xF149F2CA#32 = (c : EReal) := by
  refine ⟨-(13234890 * 2 ^ 76), ?_⟩
  simp [Ideal.ofBits, Ideal.ieee]

/-- The largest of a real and finitely many reals is a real. -/
theorem fold_max_real {J : Type*} (S : Finset J) (m : ℝ) (f : J → ℝ) :
    ∃ c : ℝ, max (m : EReal) (S.fold max (⊥ : EReal) fun j => (f j : EReal)) = (c : EReal) := by
  classical
  induction S using Finset.induction_on with
  | empty => exact ⟨m, by simp⟩
  | insert a s ha ih =>
    obtain ⟨c, hc⟩ := ih
    exact ⟨max (f a) c, by rw [Finset.fold_insert ha, max_left_comm, hc, coe_max]⟩

/-- The fold of `max` from −∞ over a nonempty finite family of reals is a real. -/
theorem fold_max_nonempty {J : Type*} [Fintype J] [Nonempty J] (f : J → ℝ) :
    ∃ c : ℝ, (Finset.univ.fold max (⊥ : EReal) fun j => (f j : EReal)) = (c : EReal) := by
  classical
  obtain ⟨a⟩ := ‹Nonempty J›
  obtain ⟨c, hc⟩ := fold_max_real (Finset.univ.erase a) (f a) f
  refine ⟨c, ?_⟩
  have h := Finset.fold_insert (op := max) (b := (⊥ : EReal)) (f := fun j => (f j : EReal)) (Finset.notMem_erase a Finset.univ)
  rw [Finset.insert_erase (Finset.mem_univ a)] at h
  rw [h, hc]

/-- The fold of `min` from +∞ is the infimum. -/
theorem fold_min_inf {J : Type*} (S : Finset J) (f : J → EReal) : S.fold min (⊤ : EReal) f = S.inf f := rfl

/-- A quotient of reals by a real that is not zero. -/
theorem div_real (x y : ℝ) (h : y ≠ 0) : Ideal.div (x : EReal) (y : EReal) = ((x / y : ℝ) : EReal) := by
  rw [Ideal.div_coe h, ← EReal.coe_mul, one_div, ← div_eq_mul_inv]

/-- The root of a real that is not negative. -/
theorem sqrt_real (x : ℝ) (h : 0 ≤ x) : Ideal.sqrt (x : EReal) = ((√x : ℝ) : EReal) := by
  rw [Ideal.sqrt_coe, if_neg (not_lt.2 h)]

end Cert.Model
-- ==== Proof.KernelIdealStep.lean ====
/- What one streaming step's arithmetic computes, on the extended reals, when the arrays it reads hold real numbers. -/
module

public import proofs.«01_k».proof.Proof.KernelIdealState
public import proofs.«01_k».proof.Proof.Math
public import proofs.«01_k».proof.Proof.Reals
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen Cert.Model
open Idealize.ShloMosaic Idealize.ShloMosaic.TcCoe

/-- The score of a key: a folded query's row against the key, plus its bias. -/
def score {D : Type*} [Fintype D] (q : D → ℝ) (b : ℝ) (x : D → ℝ) : ℝ := (∑ d, q d * x d) + b

/-- The part of a squared distance that the stream carries: the key's square less twice its product with the feature row. -/
def gap {D : Type*} [Fintype D] (f x : D → ℝ) : ℝ := (∑ d, x d * x d) - 2 * ∑ d, f d * x d

variable {x2 : Vec Ideal S512x128 .f32} {qk : Vec Ideal S1024x128 .f32} {qbk mx z : Vec Ideal S1024x1 .f32}
variable {x3 : Vec Ideal S512x128 .f32} {s : Vec Ideal S1024x128 .f32}
variable {K W : Fin 512 → Fin 128 → ℝ} {Q : Fin 1024 → Fin 128 → ℝ} {B M M' Z : Fin 1024 → ℝ} {T : Fin 1024 → Fin 128 → ℝ}

/-- The block's scores, of each folded query against each key of the block. -/
theorem pay25_at (h2 : ∀ i j, x2 (ix2 i j) = (K i j : EReal)) (hq : ∀ i j, qk (ix2 i j) = (Q i j : EReal))
    (hb : ∀ i, qbk (ix2 i 0) = (B i : EReal)) (r : Fin 1024) (j : Fin 512) :
    k0_pay25 (F := Ideal) x2 qk qbk (ix2 r j) = (score (Q r) (B r) (K j) : EReal) := by
  pointwise [k0_pay25]
  simp only [h2, hq, hb, score, EReal.coe_add, coe_sum, EReal.coe_mul]

/-- The running maximum stays real. -/
theorem stepM_at (h2 : ∀ i j, x2 (ix2 i j) = (K i j : EReal)) (hq : ∀ i j, qk (ix2 i j) = (Q i j : EReal))
    (hb : ∀ i, qbk (ix2 i 0) = (B i : EReal)) (hm : ∀ i, mx (ix2 i 0) = (M i : EReal)) :
    ∃ M' : Fin 1024 → ℝ, ∀ r, stepM (F := Ideal) x2 qk qbk mx (ix2 r 0) = (M' r : EReal) := by
  have h25 := pay25_at h2 hq hb
  have key : ∀ r, ∃ c : ℝ, stepM (F := Ideal) x2 qk qbk mx (ix2 r 0) = (c : EReal) := by
    intro r
    unfold stepM k0_pay5 k0_pay26
    generalize k0_pay25 (F := Ideal) x2 qk qbk = y at h25
    have e : maximumf mx (shapeCast S1024x1 (multiReduction .maximumf [1] S1024 y 0xFF800000#32 reduces_S1024x512_S1024 (.inl rfl) rfl) shapeCasts_S1024_S1024x1) (ix2 r 0)
        = max (mx (ix2 r 0)) (Finset.univ.fold max (Ideal.ofBits FTy.f32 0xFF800000#32) fun x => y (ix2 r x)) := by
      pointwise []
    obtain ⟨c, hc⟩ := fold_max_real Finset.univ (M r) fun j => score (Q r) (B r) (K j)
    refine ⟨c, ?_⟩
    rw [← hc, ← hm, ← bits_bot]
    simp only [← h25]
    rw [← e]
    pointwise []
  choose M' hM' using key
  exact ⟨M', hM'⟩

/-- The running normaliser after a step. -/
theorem stepZ_at (h2 : ∀ i j, x2 (ix2 i j) = (K i j : EReal)) (hq : ∀ i j, qk (ix2 i j) = (Q i j : EReal))
    (hb : ∀ i, qbk (ix2 i 0) = (B i : EReal)) (hm : ∀ i, mx (ix2 i 0) = (M i : EReal))
    (hm' : ∀ i, stepM (F := Ideal) x2 qk qbk mx (ix2 i 0) = (M' i : EReal)) (hz : ∀ i, z (ix2 i 0) = (Z i : EReal)) (r : Fin 1024) :
    stepZ (F := Ideal) x2 qk qbk mx z (ix2 r 0)
      = ((Z r * Real.exp (M r - M' r) + ∑ j, Real.exp (score (Q r) (B r) (K j) - M' r) : ℝ) : EReal) := by
  have h25 := pay25_at h2 hq hb
  have hm'' : k0_pay26 (F := Ideal) x2 qk qbk mx (ix2 r 0) = (M' r : EReal) := by
    rw [← hm' r]; unfold stepM; generalize k0_pay26 (F := Ideal) x2 qk qbk mx = y; pointwise [k0_pay5]
  unfold stepZ
  generalize k0_pay26 (F := Ideal) x2 qk qbk mx = y at hm''
  generalize k0_pay25 (F := Ideal) x2 qk qbk = w at h25
  pointwise [k0_pay3, k0_pay1, k0_pay2]
  simp only [h25, hm, hm'', hz, ← EReal.coe_sub, Ideal.exp_coe, ← EReal.coe_mul, ← coe_sum, ← EReal.coe_add]

/-- The running weighted sum after a step. -/
theorem stepS_at (h2 : ∀ i j, x2 (ix2 i j) = (K i j : EReal)) (h3 : ∀ i j, x3 (ix2 i j) = (W i j : EReal)) (hq : ∀ i j, qk (ix2 i j) = (Q i j : EReal))
    (hb : ∀ i, qbk (ix2 i 0) = (B i : EReal)) (hm : ∀ i, mx (ix2 i 0) = (M i : EReal))
    (hm' : ∀ i, stepM (F := Ideal) x2 qk qbk mx (ix2 i 0) = (M' i : EReal)) (hs : ∀ i j, s (ix2 i j) = (T i j : EReal)) (r : Fin 1024) (k : Fin 128) :
    stepS (F := Ideal) x2 x3 qk qbk mx s (ix2 r k)
      = ((T r k * Real.exp (M r - M' r) + ∑ j, Real.exp (score (Q r) (B r) (K j) - M' r) * W j k : ℝ) : EReal) := by
  have h25 := pay25_at h2 hq hb
  have hm'' : k0_pay26 (F := Ideal) x2 qk qbk mx (ix2 r 0) = (M' r : EReal) := by
    rw [← hm' r]; unfold stepM; generalize k0_pay26 (F := Ideal) x2 qk qbk mx = y; pointwise [k0_pay5]
  unfold stepS
  generalize k0_pay26 (F := Ideal) x2 qk qbk mx = y at hm''
  generalize k0_pay25 (F := Ideal) x2 qk qbk = w at h25
  pointwise [k0_pay4, k0_pay1, k0_pay2]
  simp only [h25, hm, hm'', hs, h3, ← EReal.coe_sub, Ideal.exp_coe, ← EReal.coe_mul, ← coe_sum, ← EReal.coe_add]

/-- The running least distance term after a step. -/
theorem stepD_at {x0 : Vec Ideal S128x128 .f32} {f : Fin 128 → Fin 128 → ℝ} (d : Vec Ideal S128x1 .f32)
    (h0 : ∀ i j, x0 (ix2 i j) = (f i j : EReal)) (h2 : ∀ i j, x2 (ix2 i j) = (K i j : EReal)) (b : Fin 128) :
    stepD (F := Ideal) x0 x2 d (ix2 b 0) = min (d (ix2 b 0)) (Finset.univ.inf fun j => ((gap (f b) (K j) : ℝ) : EReal)) := by
  unfold stepD
  pointwise [k0_pay24]
  rw [bits_top, fold_min_inf, bits_two]
  simp only [h0, h2, ← EReal.coe_mul, ← coe_sum, ← EReal.coe_sub, gap]

end Cert.KernelIdeal.Hand

end
-- ==== Proof.KernelIdealInit.lean ====
/- What the first step's set-up computes, on the extended reals, when the arrays it reads hold real numbers. -/
module

public import proofs.«01_k».proof.Proof.KernelIdealState
public import proofs.«01_k».proof.Proof.Math
public import proofs.«01_k».proof.Proof.Reals
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen Cert.Model
open Idealize.ShloMosaic Idealize.ShloMosaic.TcCoe

/-- The head of a stacked row: rows `128 h … 128 h + 127` belong to head `h`. -/
def hd (r : Fin 1024) : Fin 8 := ⟨r.val / 128, by have := r.isLt; omega⟩

/-- The query of a stacked row: its place among the head's 128 rows. -/
def bt (r : Fin 1024) : Fin 128 := ⟨r.val % 128, by omega⟩

/-- The scaled query of one head: the affine layer's value over √17, kept at the head's columns by the mask `hm`. -/
def maskedQuery (f : Fin 128 → Fin 128 → ℝ) (w : Fin 128 → Fin 136 → ℝ) (b : Fin 136 → ℝ) (hm : Fin 8 → Fin 136 → ℝ)
    (h : Fin 8) (q : Fin 128) (c : Fin 136) : ℝ := ((∑ d, f q d * w d c) + b c) * (√17)⁻¹ * hm h c

/-- The named query scale is the reciprocal root of 17. -/
theorem named_scale : (Named.named κ "scale" 0x3E785B42#32 : Ideal .f32) = (((√17)⁻¹ : ℝ) : EReal) :=
  IdealRules.named_const.ideal_named_scalar _ _ _ _ rfl

variable {x0 : Vec Ideal S128x128 .f32} {x6 x8 : Vec Ideal S128x136 .f32} {x7 x9 : Vec Ideal S1x136 .f32} {x18 : Vec Ideal S8x136 .f32}
variable {f : Fin 128 → Fin 128 → ℝ} {wq wk : Fin 128 → Fin 136 → ℝ} {bq bk : Fin 136 → ℝ} {hm : Fin 8 → Fin 136 → ℝ}

/-- The stacked masked queries. -/
theorem pay7_at (h0 : ∀ i j, x0 (ix2 i j) = (f i j : EReal)) (h6 : ∀ i j, x6 (ix2 i j) = (wq i j : EReal))
    (h7 : ∀ j, x7 (ix2 0 j) = (bq j : EReal)) (h18 : ∀ i j, x18 (ix2 i j) = (hm i j : EReal)) (r : Fin 1024) (c : Fin 136) :
    k0_pay7 (F := Ideal) x0 x6 x7 x18 (ix2 r c) = (maskedQuery f wq bq hm (hd r) (bt r) c : EReal) := by
  have hr := r.isLt
  have key : ∀ (q : Fin 128) (h : Fin 8), q = bt r → h = hd r →
      ((((∑ d, f q d * wq d c) + bq c) * (√17)⁻¹ * hm h c : ℝ) : EReal) = (maskedQuery f wq bq hm (hd r) (bt r) c : EReal) := by
    rintro q h rfl rfl; rfl
  pointwise [k0_pay7]
  simp only [h0, h6, h7, h18, named_scale, ← EReal.coe_mul, ← coe_sum, ← EReal.coe_add]
  split_ifs <;> refine key _ _ (Fin.ext ?_) (Fin.ext ?_) <;> simp only [bt, hd] <;> first | omega | (simp; omega)

/-- The folded queries. -/
theorem initQk_at (h0 : ∀ i j, x0 (ix2 i j) = (f i j : EReal)) (h6 : ∀ i j, x6 (ix2 i j) = (wq i j : EReal))
    (h7 : ∀ j, x7 (ix2 0 j) = (bq j : EReal)) (h18 : ∀ i j, x18 (ix2 i j) = (hm i j : EReal)) (h8 : ∀ i j, x8 (ix2 i j) = (wk i j : EReal))
    (r : Fin 1024) (d : Fin 128) :
    initQk (F := Ideal) x0 x6 x7 x8 x18 (ix2 r d) = ((∑ c, maskedQuery f wq bq hm (hd r) (bt r) c * wk d c : ℝ) : EReal) := by
  have h := pay7_at h0 h6 h7 h18
  unfold initQk k0_pay9
  generalize k0_pay7 (F := Ideal) x0 x6 x7 x18 = y at h
  pointwise [k0_pay18]
  simp only [h, h8, ← EReal.coe_mul, ← coe_sum]

/-- The folded key bias. -/
theorem initQbk_at (h0 : ∀ i j, x0 (ix2 i j) = (f i j : EReal)) (h6 : ∀ i j, x6 (ix2 i j) = (wq i j : EReal))
    (h7 : ∀ j, x7 (ix2 0 j) = (bq j : EReal)) (h18 : ∀ i j, x18 (ix2 i j) = (hm i j : EReal)) (h9 : ∀ j, x9 (ix2 0 j) = (bk j : EReal))
    (r : Fin 1024) :
    initQbk (F := Ideal) x0 x6 x7 x9 x18 (ix2 r 0) = ((∑ c, maskedQuery f wq bq hm (hd r) (bt r) c * bk c : ℝ) : EReal) := by
  have h := pay7_at h0 h6 h7 h18
  unfold initQbk
  generalize k0_pay7 (F := Ideal) x0 x6 x7 x18 = y at h
  pointwise [k0_pay19]
  simp only [h, h9, ← EReal.coe_mul, ← coe_sum]

/-- The running maximum starts at a real. -/
theorem pay20_at : ∃ c : ℝ, ∀ r : Fin 1024, k0_pay20 (F := Ideal) (ix2 r 0) = (c : EReal) := by
  obtain ⟨c, hc⟩ := bits_start
  refine ⟨c, fun r => ?_⟩
  rw [← hc]
  pointwise [k0_pay20]

/-- The running normaliser starts at zero. -/
theorem pay21_at (r : Fin 1024) : k0_pay21 (F := Ideal) (ix2 r 0) = ((0 : ℝ) : EReal) := by
  pointwise [k0_pay21]
  simp

/-- The running weighted sum starts at zero. -/
theorem pay22_at (r : Fin 1024) (k : Fin 128) : k0_pay22 (F := Ideal) (ix2 r k) = ((0 : ℝ) : EReal) := by
  pointwise [k0_pay22]
  simp

/-- The running least distance term starts at +∞. -/
theorem pay23_at (b : Fin 128) : k0_pay23 (F := Ideal) (ix2 b 0) = (⊤ : EReal) := by
  pointwise [k0_pay23]
  exact IdealRules.named_const.ideal_named_scalar _ _ _ _ rfl

end Cert.KernelIdeal.Hand

end
-- ==== Proof.Upto.lean ====
/- The memory's rows in the order of the stream: blocks of 512 rows, so that a sum or a minimum over the rows read so far grows by one block at each step. -/
module

public import Mathlib.Algebra.BigOperators.Group.Finset.Basic
public import Mathlib.Data.EReal.Basic
public import Mathlib.Data.Fintype.BigOperators

@[expose] public section

namespace Cert.Model

/-- The first `w n` of `N` rows. -/
def upto (N w n : ℕ) : Finset (Fin N) := Finset.univ.filter fun j => j.val < w * n

/-- Row `r` of block `n`. -/
def blockRow (N w n : ℕ) (h : w * n + w ≤ N) : Fin w ↪ Fin N :=
  ⟨fun r => ⟨w * n + r.val, by have := r.isLt; omega⟩, fun a b e => Fin.ext (by have := congrArg Fin.val e; simp only at this; omega)⟩

/-- No rows before the first block. -/
theorem upto_zero (N w : ℕ) : upto N w 0 = ∅ := by
  ext j; simp [upto]

/-- Enough blocks hold all the rows. -/
theorem upto_all (N w n : ℕ) (h : N ≤ w * n) : upto N w n = Finset.univ := by
  ext j
  have := j.isLt
  simp only [upto, Finset.mem_filter, Finset.mem_univ, true_and, iff_true]
  omega

/-- One more block: the rows so far and the rows of the block. -/
theorem upto_succ (N w n : ℕ) (h : w * n + w ≤ N) :
    upto N w (n + 1) = upto N w n ∪ Finset.univ.map (blockRow N w n h) := by
  ext j
  simp only [upto, Finset.mem_union, Finset.mem_filter, Finset.mem_univ, true_and, Finset.mem_map, blockRow, Function.Embedding.coeFn_mk,
    Nat.mul_succ]
  constructor
  · intro hj
    rcases Nat.lt_or_ge j.val (w * n) with h' | h'
    · exact Or.inl h'
    · exact Or.inr ⟨⟨j.val - w * n, by omega⟩, Fin.ext (by show w * n + (j.val - w * n) = j.val; omega)⟩
  · rintro (h' | ⟨r, rfl⟩)
    · omega
    · have := r.isLt
      show w * n + r.val < w * n + w
      omega

/-- The next block's rows are new. -/
theorem upto_disjoint (N w n : ℕ) (h : w * n + w ≤ N) : Disjoint (upto N w n) (Finset.univ.map (blockRow N w n h)) := by
  rw [Finset.disjoint_left]
  intro j hj hj'
  simp only [upto, Finset.mem_filter, Finset.mem_univ, true_and, Finset.mem_map] at hj hj'
  obtain ⟨r, rfl⟩ := hj'
  have : w * n + r.val < w * n := hj
  omega

/-- A sum over the rows read so far grows by the block's sum. -/
theorem sum_upto_succ {N w n : ℕ} (h : w * n + w ≤ N) (F : Fin N → ℝ) :
    ∑ j ∈ upto N w (n + 1), F j = (∑ j ∈ upto N w n, F j) + ∑ r, F (blockRow N w n h r) := by
  rw [upto_succ N w n h, Finset.sum_union (upto_disjoint N w n h), Finset.sum_map]

/-- A minimum over the rows read so far takes in the block's minimum. -/
theorem inf_upto_succ {N w n : ℕ} (h : w * n + w ≤ N) (F : Fin N → EReal) :
    (upto N w (n + 1)).inf F = min ((upto N w n).inf F) (Finset.univ.inf fun r => F (blockRow N w n h r)) := by
  rw [upto_succ N w n h, Finset.inf_union, Finset.inf_map]
  rfl

end Cert.Model

end
-- ==== Proof.KernelIdealStream.lean ====
/- The stream's state after each step, over the real numbers: the running sums are the softmax sums over the rows read so far. -/
module

public import proofs.«01_k».proof.Proof.KernelIdealBlocks
public import proofs.«01_k».proof.Proof.KernelIdealStep
public import proofs.«01_k».proof.Proof.KernelIdealInit
public import proofs.«01_k».proof.Proof.Upto

@[expose] public section

set_option maxRecDepth 16384

noncomputable section

namespace Cert.KernelIdeal.Hand

open Cert.KernelIdeal Cert.KernelIdeal.Gen Cert.Model
open Idealize.ShloMosaic Idealize.ShloMosaic.TcCoe Idealize.SL.Sem

/-- The state holds the folded queries, and the shifted sums and the least gap over the first `n` blocks of rows. -/
def Holds (f : Fin 128 → Fin 128 → ℝ) (K V : Fin 65536 → Fin 128 → ℝ) (Q : Fin 1024 → Fin 128 → ℝ) (B : Fin 1024 → ℝ)
    (n : ℕ) (x : Scr Ideal) : Prop :=
  (∀ r d, x.qk (ix2 r d) = (Q r d : EReal)) ∧ (∀ r, x.qbk (ix2 r 0) = (B r : EReal)) ∧
  ∃ μ : Fin 1024 → ℝ, (∀ r, x.mx (ix2 r 0) = (μ r : EReal))
    ∧ (∀ r, x.z (ix2 r 0) = ((∑ j ∈ upto 65536 512 n, Real.exp (score (Q r) (B r) (K j) - μ r) : ℝ) : EReal))
    ∧ (∀ r d, x.s (ix2 r d) = ((∑ j ∈ upto 65536 512 n, Real.exp (score (Q r) (B r) (K j) - μ r) * V j d : ℝ) : EReal))
    ∧ (∀ b, x.d (ix2 b 0) = (upto 65536 512 n).inf fun j => ((gap (f b) (K j) : ℝ) : EReal))

variable (m : (ℓ : Loc nD τ sig) → Buf (Elt Ideal) ℓ) (c : Dev nD)
variable {f : Fin 128 → Fin 128 → ℝ} {K V' : Fin 65536 → Fin 128 → ℝ} {Q : Fin 1024 → Fin 128 → ℝ} {B : Fin 1024 → ℝ}

/-- One block of rows read. -/
theorem step_holds (h0 : ∀ i j, arr m c main_arg0 (ix2 i j) = (f i j : EReal)) (h2 : ∀ i j, arr m c main_arg2 (ix2 i j) = (K i j : EReal))
    (h3 : ∀ i j, arr m c main_arg3 (ix2 i j) = (V' i j : EReal)) (t : Fin cfg0.N) (n : ℕ) (ht : t.val = n) (hn : n < 128)
    (x : Scr Ideal) (h : Holds f K V' Q B n x) : Holds f K V' Q B (n + 1) (scrStep m c t x) := by
  obtain ⟨hq, hb, μ, hm, hz, hs, hd⟩ := h
  subst ht
  have hle : 512 * t.val + 512 ≤ 65536 := by omega
  have e2 : ∀ i j, iblk m c 2 t (ix2 i j) = ((K (blockRow 65536 512 t.val hle i) j : ℝ) : EReal) := fun i j =>
    (iblk2 m c t i j (by have := i.isLt; omega)).trans (h2 _ _)
  have e3 : ∀ i j, iblk m c 3 t (ix2 i j) = ((V' (blockRow 65536 512 t.val hle i) j : ℝ) : EReal) := fun i j =>
    (iblk3 m c t i j (by have := i.isLt; omega)).trans (h3 _ _)
  have e0 : ∀ i j, iblk m c 0 t (ix2 i j) = ((f i j : ℝ) : EReal) := fun i j => (congrFun (iblk0 m c t) _).trans (h0 i j)
  obtain ⟨M', hM'⟩ := stepM_at e2 hq hb hm
  refine ⟨hq, hb, M', hM', fun r => ?_, fun r k => ?_, fun b => ?_⟩
  · refine (stepZ_at e2 hq hb hm hM' hz r).trans ?_
    have h1 := rescale (upto 65536 512 t.val) (fun j => score (Q r) (B r) (K j)) (fun _ => 1) (μ r) (M' r)
    simp only [mul_one] at h1
    rw [h1, sum_upto_succ hle]
  · refine (stepS_at e2 e3 hq hb hm hM' hs r k).trans ?_
    have h1 := rescale (upto 65536 512 t.val) (fun j => score (Q r) (B r) (K j)) (fun j => V' j k) (μ r) (M' r)
    rw [h1, sum_upto_succ hle]
  · refine (stepD_at x.d e0 e2 b).trans ?_
    rw [hd, inf_upto_succ hle]

/-- Nothing read: the state the first step starts from. -/
theorem init_holds {wq wk : Fin 128 → Fin 136 → ℝ} {bq bk : Fin 136 → ℝ} {hm : Fin 8 → Fin 136 → ℝ}
    (h0 : ∀ i j, arr m c main_arg0 (ix2 i j) = (f i j : EReal))
    (h6 : ∀ i j, V m c main_v6 (ix2 i j) = (wq i j : EReal)) (h7 : ∀ j, V m c main_v9 (ix2 0 j) = (bq j : EReal))
    (h8 : ∀ i j, V m c main_v10 (ix2 i j) = (wk i j : EReal)) (h9 : ∀ j, V m c main_v13 (ix2 0 j) = (bk j : EReal))
    (h18 : ∀ i j, V m c main_v29 (ix2 i j) = (hm i j : EReal)) (t : Fin cfg0.N) :
    Holds f K V' (fun r d => ∑ a, maskedQuery f wq bq hm (Hand.hd r) (bt r) a * wk d a) (fun r => ∑ a, maskedQuery f wq bq hm (Hand.hd r) (bt r) a * bk a)
      0 (scrInit m c t) := by
  have e0 : ∀ i j, iblk m c 0 t (ix2 i j) = ((f i j : ℝ) : EReal) := fun i j => (congrFun (iblk0 m c t) _).trans (h0 i j)
  have e6 : ∀ i j, iblk m c 6 t (ix2 i j) = ((wq i j : ℝ) : EReal) := fun i j => (congrFun (iblk6 m c t) _).trans (h6 i j)
  have e7 : ∀ j, iblk m c 7 t (ix2 0 j) = ((bq j : ℝ) : EReal) := fun j => (congrFun (iblk7 m c t) _).trans (h7 j)
  have e8 : ∀ i j, iblk m c 8 t (ix2 i j) = ((wk i j : ℝ) : EReal) := fun i j => (congrFun (iblk8 m c t) _).trans (h8 i j)
  have e9 : ∀ j, iblk m c 9 t (ix2 0 j) = ((bk j : ℝ) : EReal) := fun j => (congrFun (iblk9 m c t) _).trans (h9 j)
  have e18 : ∀ i j, iblk m c 18 t (ix2 i j) = ((hm i j : ℝ) : EReal) := fun i j => (congrFun (iblk18 m c t) _).trans (h18 i j)
  obtain ⟨μ, hμ⟩ := pay20_at
  refine ⟨fun r d => initQk_at e0 e6 e7 e18 e8 r d, fun r => initQbk_at e0 e6 e7 e18 e9 r, fun _ => μ, hμ, fun r => ?_, fun r k => ?_, fun b => ?_⟩
  · refine (pay21_at r).trans ?_
    rw [upto_zero, Finset.sum_empty]
  · refine (pay22_at r k).trans ?_
    rw [upto_zero, Finset.sum_empty]
  · refine (pay23_at b).trans ?_
    rw [upto_zero, Finset.inf_empty]

/-- After step `n` the first `n + 1` blocks are in. -/
theorem scrAt_holds (h0 : ∀ i j, arr m c main_arg0 (ix2 i j) = (f i j : EReal)) (h2 : ∀ i j, arr m c main_arg2 (ix2 i j) = (K i j : EReal))
    (h3 : ∀ i j, arr m c main_arg3 (ix2 i j) = (V' i j : EReal)) (hi : Holds f K V' Q B 0 (scrInit m c (pt 0))) (n : ℕ) (hn : n < 128) :
    Holds f K V' Q B (n + 1) (scrAt m c n) := by
  induction n with
  | zero => exact step_holds m c h0 h2 h3 (pt 0) 0 rfl hn _ hi
  | succ n ih =>
    have e : (pt (n + 1)).val = n + 1 := by
      show min (n + 1) 127 = n + 1
      omega
    exact step_holds m c h0 h2 h3 (pt (n + 1)) (n + 1) e hn _ (ih (by omega))

end Cert.KernelIdeal.Hand

end
-- ==== Proof.KernelIdealLast.lean ====
/- What the last step's correction and output projection compute, on the extended reals, when the arrays they read hold real numbers. -/
module

public import proofs.«01_k».proof.Proof.KernelIdealStep
public import proofs.«01_k».proof.Proof.KernelIdealInit

@[expose] public section

set_option maxRecDepth 16384

noncomputable section

namespace Cert.KernelIdeal.Hand

open Cert.KernelIdeal Cert.KernelIdeal.Gen Cert.Model
open Idealize.ShloMosaic Idealize.ShloMosaic.TcCoe

variable {qk : Vec Ideal S1024x128 .f32} {qbk mx z : Vec Ideal S1024x1 .f32} {s : Vec Ideal S1024x128 .f32}
variable {ko vo kn vn : FVec Ideal S128x128 .f32}
variable {KO VO KN VN : Fin 128 → Fin 128 → ℝ} {Q : Fin 1024 → Fin 128 → ℝ} {B M Z : Fin 1024 → ℝ} {T : Fin 1024 → Fin 128 → ℝ}

/-- The scores of the folded queries against 128 rows. -/
theorem smallScore_at {k : FVec Ideal S128x128 .f32} {K : Fin 128 → Fin 128 → ℝ} (hk : ∀ i j, k (ix2 i j) = (K i j : EReal))
    (hq : ∀ i j, qk (ix2 i j) = (Q i j : EReal)) (hb : ∀ i, qbk (ix2 i 0) = (B i : EReal)) (r : Fin 1024) (j : Fin 128) :
    addf (matmul (φ₁ := .f32) (φ₂ := .f32) dot_S1024x128_S128x128_S1024x128_1_1_0_0_n_n none qk k (constant (F := Ideal) S1024x128 .f32 0x00000000#32))
      (broadcastTo S1024x128 qbk broadcasts_S1024x1_S1024x128) (ix2 r j) = (score (Q r) (B r) (K j) : EReal) := by
  pointwise []
  simp only [hk, hq, hb, score, EReal.coe_add, coe_sum, EReal.coe_mul]

/-- The corrected weighted sum over the corrected normaliser, shifted by some real in each row. -/
theorem pay15_at (hko : ∀ i j, ko (ix2 i j) = (KO i j : EReal)) (hvo : ∀ i j, vo (ix2 i j) = (VO i j : EReal))
    (hkn : ∀ i j, kn (ix2 i j) = (KN i j : EReal)) (hvn : ∀ i j, vn (ix2 i j) = (VN i j : EReal))
    (hq : ∀ i j, qk (ix2 i j) = (Q i j : EReal)) (hb : ∀ i, qbk (ix2 i 0) = (B i : EReal)) (hm : ∀ i, mx (ix2 i 0) = (M i : EReal))
    (hz : ∀ i, z (ix2 i 0) = (Z i : EReal)) (hs : ∀ i j, s (ix2 i j) = (T i j : EReal)) :
    ∃ M' : Fin 1024 → ℝ, ∀ r d, k0_pay15 (F := Ideal) ko vo kn vn qk qbk mx z s (ix2 r d)
      = Ideal.div ((T r d * Real.exp (M r - M' r) + (∑ j, Real.exp (score (Q r) (B r) (KN j) - M' r) * VN j d)
          - ∑ j, Real.exp (score (Q r) (B r) (KO j) - M' r) * VO j d : ℝ) : EReal)
        ((Z r * Real.exp (M r - M' r) + (∑ j, Real.exp (score (Q r) (B r) (KN j) - M' r))
          - ∑ j, Real.exp (score (Q r) (B r) (KO j) - M' r) : ℝ) : EReal) := by
  have hN := smallScore_at hkn hq hb
  have hO := smallScore_at hko hq hb
  unfold k0_pay15
  dsimp only
  generalize addf (matmul (φ₁ := .f32) (φ₂ := .f32) dot_S1024x128_S128x128_S1024x128_1_1_0_0_n_n none qk kn (constant (F := Ideal) S1024x128 .f32 0x00000000#32))
      (broadcastTo S1024x128 qbk broadcasts_S1024x1_S1024x128) = sN at hN ⊢
  generalize addf (matmul (φ₁ := .f32) (φ₂ := .f32) dot_S1024x128_S128x128_S1024x128_1_1_0_0_n_n none qk ko (constant (F := Ideal) S1024x128 .f32 0x00000000#32))
      (broadcastTo S1024x128 qbk broadcasts_S1024x1_S1024x128) = sO at hO ⊢
  have hM : ∃ M' : Fin 1024 → ℝ, ∀ r, maximumf mx (maximumf
      (shapeCast S1024x1 (multiReduction .maximumf [1] S1024 sN 0xFF800000#32 reduces_S1024x128_S1024 (.inl rfl) rfl) shapeCasts_S1024_S1024x1)
      (shapeCast S1024x1 (multiReduction .maximumf [1] S1024 sO 0xFF800000#32 reduces_S1024x128_S1024 (.inl rfl) rfl) shapeCasts_S1024_S1024x1)) (ix2 r 0)
      = (M' r : EReal) := by
    have key : ∀ r : Fin 1024, ∃ c : ℝ, max (mx (ix2 r 0))
      (max (Finset.fold max (Ideal.ofBits FTy.f32 0xFF800000#32) (fun x => sN (ix2 r x)) Finset.univ)
        (Finset.fold max (Ideal.ofBits FTy.f32 0xFF800000#32) (fun x => sO (ix2 r x)) Finset.univ)) = (c : EReal) := by
      intro r
      simp only [hN, hO, hm, bits_bot]
      obtain ⟨c, hc⟩ := fold_max_real Finset.univ (M r) fun j => score (Q r) (B r) (KN j)
      obtain ⟨c', hc'⟩ := fold_max_real Finset.univ c fun j => score (Q r) (B r) (KO j)
      exact ⟨c', by rw [← max_assoc, hc, hc']⟩
    choose M' hM' using key
    refine ⟨M', fun r => ?_⟩
    rw [← hM']
    pointwise []
  obtain ⟨M', hM'⟩ := hM
  refine ⟨M', fun r d => ?_⟩
  generalize maximumf mx (maximumf
      (shapeCast S1024x1 (multiReduction .maximumf [1] S1024 sN 0xFF800000#32 reduces_S1024x128_S1024 (.inl rfl) rfl) shapeCasts_S1024_S1024x1)
      (shapeCast S1024x1 (multiReduction .maximumf [1] S1024 sO 0xFF800000#32 reduces_S1024x128_S1024 (.inl rfl) rfl) shapeCasts_S1024_S1024x1)) = mg at hM' ⊢
  pointwise []
  simp only [hN, hO, hm, hM', hz, hs, hvn, hvo, ← EReal.coe_sub, Ideal.exp_coe, ← EReal.coe_mul, ← coe_sum, ← EReal.coe_add]

/-- The stacked row of a head and a query. -/
def row (h : Fin 8) (b : Fin 128) : Fin 1024 := ⟨128 * h.val + b.val, by have := h.isLt; have := b.isLt; omega⟩

/-- The value projection, the head selection and the output projection. -/
theorem pay17_at {p : FVec Ideal S1024x128 .f32} {wv : FVec Ideal S128x136 .f32} {bv : Vec Ideal S1x136 .f32} {hmv : Vec Ideal S8x136 .f32} {wo : Vec Ideal S136x128 .f32}
    {P : Fin 1024 → Fin 128 → ℝ} {WV : Fin 128 → Fin 136 → ℝ} {BV : Fin 136 → ℝ} {HM : Fin 8 → Fin 136 → ℝ} {WO : Fin 136 → Fin 128 → ℝ}
    (hp : ∀ i j, p (ix2 i j) = (P i j : EReal)) (hwv : ∀ i j, wv (ix2 i j) = (WV i j : EReal)) (hbv : ∀ j, bv (ix2 0 j) = (BV j : EReal))
    (hhm : ∀ i j, hmv (ix2 i j) = (HM i j : EReal)) (hwo : ∀ i j, wo (ix2 i j) = (WO i j : EReal)) (b d : Fin 128) :
    k0_pay17 (F := Ideal) p wv bv hmv wo (ix2 b d)
      = ((∑ c, (∑ h, ((∑ k, P (row h b) k * WV k c) + BV c) * HM h c) * WO c d : ℝ) : EReal) := by
  have e0 : ∀ h, (⟨b.val, h⟩ : Fin 1024) = row 0 b := fun h => Fin.ext (by show b.val = 128 * 0 + b.val; omega)
  pointwise [k0_pay17]
  simp only [hp, hwv, hbv, hhm, hwo, e0, ← EReal.coe_mul, ← coe_sum, ← EReal.coe_add]
  refine congrArg _ (Finset.sum_congr rfl fun c _ => ?_)
  rw [Fin.sum_univ_eight]
  rfl

/-- The rows written back: the encoded row where the mask holds, the old row elsewhere. -/
theorem pay13_at {x0 x1 w o : Vec Ideal S128x128 .f32} {d : Vec Ideal S128x1 .f32} {bb : Vec Ideal S1x128 .f32}
    {f W O : Fin 128 → Fin 128 → ℝ} {b : Fin 128 → ℝ} (P : Fin 128 → Prop) [DecidablePred P]
    (hP : ∀ i, k0_pay10 (F := Ideal) x0 x1 d (ix2 i 0) = BitVec.ofBool (decide (P i)))
    (h0 : ∀ i j, x0 (ix2 i j) = (f i j : EReal)) (hw : ∀ i j, w (ix2 i j) = (W i j : EReal)) (hb : ∀ j, bb (ix2 0 j) = (b j : EReal))
    (ho : ∀ i j, o (ix2 i j) = (O i j : EReal)) (i k : Fin 128) :
    k0_pay13 (F := Ideal) x0 x1 d w bb o (ix2 i k) = ((if P i then (∑ j, f i j * W j k) + b k else O i k : ℝ) : EReal) := by
  unfold k0_pay13
  generalize k0_pay10 (F := Ideal) x0 x1 d = mm at hP
  pointwise [k0_pay11]
  simp only [hP, h0, hw, hb, ho, ← EReal.coe_mul, ← coe_sum, ← EReal.coe_add]
  by_cases h : P i <;> simp [h, Scalar.select]

/-- The values written back, likewise. -/
theorem pay14_at {x0 x1 w o : Vec Ideal S128x128 .f32} {d : Vec Ideal S128x1 .f32} {bb : Vec Ideal S1x128 .f32}
    {f W O : Fin 128 → Fin 128 → ℝ} {b : Fin 128 → ℝ} (P : Fin 128 → Prop) [DecidablePred P]
    (hP : ∀ i, k0_pay10 (F := Ideal) x0 x1 d (ix2 i 0) = BitVec.ofBool (decide (P i)))
    (h0 : ∀ i j, x0 (ix2 i j) = (f i j : EReal)) (hw : ∀ i j, w (ix2 i j) = (W i j : EReal)) (hb : ∀ j, bb (ix2 0 j) = (b j : EReal))
    (ho : ∀ i j, o (ix2 i j) = (O i j : EReal)) (i k : Fin 128) :
    k0_pay14 (F := Ideal) x0 x1 d w bb o (ix2 i k) = ((if P i then (∑ j, f i j * W j k) + b k else O i k : ℝ) : EReal) := by
  unfold k0_pay14
  generalize k0_pay10 (F := Ideal) x0 x1 d = mm at hP
  pointwise [k0_pay12]
  simp only [hP, h0, hw, hb, ho, ← EReal.coe_mul, ← coe_sum, ← EReal.coe_add]
  by_cases h : P i <;> simp [h, Scalar.select]

/-- The named squared threshold is one hundredth. -/
theorem named_thresh : (Named.named κ "thresh_sq" 0x3C23D70A#32 : Ideal .f32) = ((1 / 100 : ℝ) : EReal) :=
  IdealRules.named_const.ideal_named_scalar _ _ _ _ rfl

/-- The kernel's mask bit. -/
theorem pay10_at {x0 x1 : Vec Ideal S128x128 .f32} {d : Vec Ideal S128x1 .f32} (i : Fin 128) :
    k0_pay10 (F := Ideal) x0 x1 d (ix2 i 0) = BitVec.ofBool (decide (((1 / 100 : ℝ) : EReal) <
      (∑ k, x1 (ix2 i k) * x1 (ix2 i k)) * max ((∑ k, x0 (ix2 i k) * x0 (ix2 i k)) + d (ix2 i 0)) 0)) := by
  pointwise [k0_pay10]
  rw [named_thresh]

end Cert.KernelIdeal.Hand

end
-- ==== Proof.KernelIdealOut.lean ====
/- The kernel's last block over the real numbers: with the evicted rows taken out and the updated rows put in, it projects the softmax means over the new memory. -/
module

public import proofs.«01_k».proof.Proof.KernelIdealStep
public import proofs.«01_k».proof.Proof.KernelIdealLast

@[expose] public section

set_option maxRecDepth 16384

noncomputable section

namespace Cert.KernelIdeal.Hand

open Cert.KernelIdeal Cert.KernelIdeal.Gen Cert.Model
open Idealize.ShloMosaic Idealize.ShloMosaic.TcCoe

/-- Sums over the old memory, corrected at the overwritten rows, are the sums over the new memory. -/
theorem corrected {J : Type*} [Fintype J] [DecidableEq J] (σ : Fin 128 → J) (hinj : Function.Injective σ) (K V NK NV : J → Fin 128 → ℝ)
    (KN VN : Fin 128 → Fin 128 → ℝ) (hitK : ∀ b, NK (σ b) = KN b) (hitV : ∀ b, NV (σ b) = VN b)
    (missK : ∀ j, (∀ b, σ b ≠ j) → NK j = K j) (missV : ∀ j, (∀ b, σ b ≠ j) → NV j = V j)
    (q : Fin 128 → ℝ) (β μ M' : ℝ) (F : (Fin 128 → ℝ) → ℝ) :
    (∑ j, Real.exp (score q β (K j) - μ) * F (V j)) * Real.exp (μ - M') + (∑ b, Real.exp (score q β (KN b) - M') * F (VN b))
        - ∑ b, Real.exp (score q β (K (σ b)) - M') * F (V (σ b))
      = ∑ j, Real.exp (score q β (NK j) - M') * F (NV j) := by
  rw [rescale Finset.univ (fun j => score q β (K j)) (fun j => F (V j)) μ M']
  exact (sum_overwrite σ hinj (fun j => (K j, V j)) (fun j => (NK j, NV j)) (fun b => (KN b, VN b)) (fun b => Prod.ext (hitK b) (hitV b))
    (fun j hj => Prod.ext (missK j hj) (missV j hj)) fun p => Real.exp (score q β p.1 - M') * F p.2).symm

variable {x0 x1 x4 x5 x10 x12 : Vec Ideal S128x128 .f32} {x11 x13 x17 : Vec Ideal S1x128 .f32} {x14 : Vec Ideal S128x136 .f32} {x15 : Vec Ideal S1x136 .f32}
variable {x16 : Vec Ideal S136x128 .f32} {x18 : Vec Ideal S8x136 .f32}
variable {qk s : Vec Ideal S1024x128 .f32} {qbk mx z : Vec Ideal S1024x1 .f32} {d : Vec Ideal S128x1 .f32}
variable {f WK WV' KO VO KN VN : Fin 128 → Fin 128 → ℝ} {BK BV' : Fin 128 → ℝ} {WV : Fin 128 → Fin 136 → ℝ} {BV : Fin 136 → ℝ} {WO : Fin 136 → Fin 128 → ℝ} {HM : Fin 8 → Fin 136 → ℝ}
variable {Q : Fin 1024 → Fin 128 → ℝ} {B μ : Fin 1024 → ℝ}

/-- The quotient of the corrected sums is the softmax mean over the new memory. -/
theorem pay15_mean {J : Type} [Fintype J] [Nonempty J] [DecidableEq J] {ko vo kn vn : FVec Ideal S128x128 .f32}
    (σ : Fin 128 → J) (hinj : Function.Injective σ) (K V NK NV : J → Fin 128 → ℝ)
    (hitK : ∀ b, NK (σ b) = KN b) (hitV : ∀ b, NV (σ b) = VN b)
    (missK : ∀ j, (∀ b, σ b ≠ j) → NK j = K j) (missV : ∀ j, (∀ b, σ b ≠ j) → NV j = V j)
    (hko : ∀ i j, ko (ix2 i j) = (K (σ i) j : EReal)) (hvo : ∀ i j, vo (ix2 i j) = (V (σ i) j : EReal))
    (hkn : ∀ i j, kn (ix2 i j) = (KN i j : EReal)) (hvn : ∀ i j, vn (ix2 i j) = (VN i j : EReal))
    (hq : ∀ i j, qk (ix2 i j) = (Q i j : EReal)) (hb : ∀ i, qbk (ix2 i 0) = (B i : EReal)) (hm : ∀ i, mx (ix2 i 0) = (μ i : EReal))
    (hz : ∀ i, z (ix2 i 0) = ((∑ j, Real.exp (score (Q i) (B i) (K j) - μ i) : ℝ) : EReal))
    (hs : ∀ i k, s (ix2 i k) = ((∑ j, Real.exp (score (Q i) (B i) (K j) - μ i) * V j k : ℝ) : EReal)) :
    ∃ M' : Fin 1024 → ℝ, ∀ r k, k0_pay15 (F := Ideal) ko vo kn vn qk qbk mx z s (ix2 r k)
      = (((∑ j, Real.exp (score (Q r) (B r) (NK j) - M' r) * NV j k) / ∑ j, Real.exp (score (Q r) (B r) (NK j) - M' r) : ℝ) : EReal) := by
  obtain ⟨M', h⟩ := pay15_at hko hvo hkn hvn hq hb hm hz hs
  refine ⟨M', fun r k => (h r k).trans ?_⟩
  have h1 := corrected σ hinj K V NK NV KN VN hitK hitV missK missV (Q r) (B r) (μ r) (M' r) fun x => x k
  have h2 := corrected σ hinj K V NK NV KN VN hitK hitV missK missV (Q r) (B r) (μ r) (M' r) fun _ => 1
  simp only [mul_one] at h2
  rw [h1, h2]
  exact div_real _ _ (Finset.sum_pos (fun j _ => Real.exp_pos _) Finset.univ_nonempty).ne'

/-- The last block: the softmax means over the new memory, through the value layer, the heads' mask and the output layer. -/
theorem outBlock_at {J : Type} [Fintype J] [Nonempty J] [DecidableEq J] (P : Fin 128 → Prop) [DecidablePred P]
    (hP : ∀ i, k0_pay10 (F := Ideal) x0 x1 d (ix2 i 0) = BitVec.ofBool (decide (P i)))
    (σ : Fin 128 → J) (hinj : Function.Injective σ) (K V NK NV : J → Fin 128 → ℝ)
    (hitK : ∀ b k, NK (σ b) k = if P b then (∑ j, f b j * WK j k) + BK k else K (σ b) k)
    (hitV : ∀ b k, NV (σ b) k = if P b then (∑ j, f b j * WV' j k) + BV' k else V (σ b) k)
    (missK : ∀ j, (∀ b, σ b ≠ j) → NK j = K j) (missV : ∀ j, (∀ b, σ b ≠ j) → NV j = V j)
    (h0 : ∀ i j, x0 (ix2 i j) = (f i j : EReal)) (h4 : ∀ i j, x4 (ix2 i j) = (K (σ i) j : EReal)) (h5 : ∀ i j, x5 (ix2 i j) = (V (σ i) j : EReal))
    (h10 : ∀ i j, x10 (ix2 i j) = (WK i j : EReal)) (h11 : ∀ j, x11 (ix2 0 j) = (BK j : EReal))
    (h12 : ∀ i j, x12 (ix2 i j) = (WV' i j : EReal)) (h13 : ∀ j, x13 (ix2 0 j) = (BV' j : EReal))
    (h14 : ∀ i j, x14 (ix2 i j) = (WV i j : EReal)) (h15 : ∀ j, x15 (ix2 0 j) = (BV j : EReal))
    (h16 : ∀ i j, x16 (ix2 i j) = (WO i j : EReal)) (h18 : ∀ i j, x18 (ix2 i j) = (HM i j : EReal))
    (hq : ∀ i j, qk (ix2 i j) = (Q i j : EReal)) (hb : ∀ i, qbk (ix2 i 0) = (B i : EReal)) (hm : ∀ i, mx (ix2 i 0) = (μ i : EReal))
    (hz : ∀ i, z (ix2 i 0) = ((∑ j, Real.exp (score (Q i) (B i) (K j) - μ i) : ℝ) : EReal))
    (hs : ∀ i k, s (ix2 i k) = ((∑ j, Real.exp (score (Q i) (B i) (K j) - μ i) * V j k : ℝ) : EReal)) :
    ∃ M' : Fin 1024 → ℝ, ∀ b k, outBlock (F := Ideal) x0 x1 x4 x5 x10 x11 x12 x13 x14 x15 x16 x17 x18 qk qbk mx z s d (ix2 b k)
      = ((∑ c, (∑ h, ((∑ e, ((∑ j, Real.exp (score (Q (row h b)) (B (row h b)) (NK j) - M' (row h b)) * NV j e)
            / ∑ j, Real.exp (score (Q (row h b)) (B (row h b)) (NK j) - M' (row h b))) * WV e c) + BV c) * HM h c) * WO c k : ℝ) : EReal)
        + x17 (ix2 0 k) := by
  have e11 : k0_pay11 x4 = x4 := by unfold k0_pay11; exact shapeCast_self _ _
  have e12 : k0_pay12 x5 = x5 := by unfold k0_pay12; exact shapeCast_self _ _
  have e16 : k0_pay16 x14 = x14 := by unfold k0_pay16; exact shapeCast_self _ _
  obtain ⟨M', h⟩ := pay15_mean (ko := x4) (vo := x5) (kn := k0_pay13 (F := Ideal) x0 x1 d x10 x11 x4) (vn := k0_pay14 (F := Ideal) x0 x1 d x12 x13 x5)
    σ hinj K V NK NV (fun b => funext (hitK b)) (fun b => funext (hitV b)) missK missV h4 h5
    (pay13_at P hP h0 h10 h11 h4) (pay14_at P hP h0 h12 h13 h5) hq hb hm hz hs
  refine ⟨M', fun b k => ?_⟩
  unfold outBlock
  rw [e11, e12, e16]
  generalize k0_pay15 (F := Ideal) x4 x5 (k0_pay13 (F := Ideal) x0 x1 d x10 x11 x4) (k0_pay14 (F := Ideal) x0 x1 d x12 x13 x5) qk qbk mx z s = p at h
  have h17 := pay17_at h h14 h15 h18 h16 b k
  generalize k0_pay17 (F := Ideal) p x14 x15 x18 x16 = y at h17
  pointwise [k0_pay6]
  rw [h17]

end Cert.KernelIdeal.Hand

end
-- ==== Proof.KernelIdealOperands.lean ====
/- The weights the kernel's host lines compose, on the extended reals, when the arrays they read hold real numbers. -/
module

public import proofs.«01_k».proof.Proof.KernelIdealBlocks
public import proofs.«01_k».proof.Proof.Reals
public import Idealize.ShloMosaic.Lib.Pointwise

@[expose] public section

set_option maxRecDepth 16384

noncomputable section

namespace Cert.KernelIdeal.Hand

open Cert.KernelIdeal Cert.KernelIdeal.Gen Cert.Model
open Idealize.ShloMosaic Idealize.ShloMosaic.TcCoe

/-- The weights of two affine layers composed. -/
theorem weights_at {p : Vec Ideal S128x136 .f32} {w : Vec Ideal S136x136 .f32} {P : Fin 128 → Fin 136 → ℝ} {W : Fin 136 → Fin 136 → ℝ}
    (hp : ∀ i j, p (ix2 i j) = (P i j : EReal)) (hw : ∀ i j, w (ix2 i j) = (W i j : EReal)) (d : Fin 128) (c : Fin 136) :
    Host.dotGeneral (F := Ideal) (φ₁ := .f32) (φ₂ := .f32) dot_S128x136_S136x136_S128x136_1_0_0_1_n_n none p w (ix2 d c) = ((∑ a, P d a * W a c : ℝ) : EReal) := by
  pointwise
  simp only [hp, hw, ← EReal.coe_mul, ← coe_sum]

/-- The bias of two affine layers composed. -/
theorem bias_at {p b : Vec Ideal S136 .f32} {w : Vec Ideal S136x136 .f32} {P B : Fin 136 → ℝ} {W : Fin 136 → Fin 136 → ℝ}
    (hp : ∀ i, p (ix1 i) = (P i : EReal)) (hw : ∀ i j, w (ix2 i j) = (W i j : EReal)) (hb : ∀ i, b (ix1 i) = (B i : EReal)) (c : Fin 136) :
    shapeCast S1x136 (addf (s := S136) (φ := .f32) (Host.dotGeneral (F := Ideal) (φ₁ := .f32) (φ₂ := .f32) dot_S136_S136x136_S136_0_0_n_1_n_n none p w) b) shapeCasts_S136_S1x136 (ix2 0 c)
      = (((∑ a, P a * W a c) + B c : ℝ) : EReal) := by
  pointwise
  simp only [hp, hw, hb, ← EReal.coe_mul, ← coe_sum, ← EReal.coe_add]

/-- The weights of the two output layers composed. -/
theorem outWeights_at {p : Vec Ideal S136x136 .f32} {w : Vec Ideal S136x128 .f32} {P : Fin 136 → Fin 136 → ℝ} {W : Fin 136 → Fin 128 → ℝ}
    (hp : ∀ i j, p (ix2 i j) = (P i j : EReal)) (hw : ∀ i j, w (ix2 i j) = (W i j : EReal)) (c : Fin 136) (d : Fin 128) :
    Host.dotGeneral (F := Ideal) (φ₁ := .f32) (φ₂ := .f32) dot_S136x136_S136x128_S136x128_1_0_0_1_n_n none p w (ix2 c d) = ((∑ a, P c a * W a d : ℝ) : EReal) := by
  pointwise
  simp only [hp, hw, ← EReal.coe_mul, ← coe_sum]

/-- The bias of the two output layers composed; the last bias may be infinite. -/
theorem outBias_at {p : Vec Ideal S136 .f32} {b : Vec Ideal S128 .f32} {w : Vec Ideal S136x128 .f32} {P : Fin 136 → ℝ} {W : Fin 136 → Fin 128 → ℝ}
    (hp : ∀ i, p (ix1 i) = (P i : EReal)) (hw : ∀ i j, w (ix2 i j) = (W i j : EReal)) (d : Fin 128) :
    shapeCast S1x128 (addf (s := S128) (φ := .f32) (Host.dotGeneral (F := Ideal) (φ₁ := .f32) (φ₂ := .f32) dot_S136_S136x128_S128_0_0_n_1_n_n none p w) b) shapeCasts_S128_S1x128 (ix2 0 d)
      = ((∑ a, P a * W a d : ℝ) : EReal) + b (ix1 d) := by
  pointwise
  simp only [hp, hw, ← EReal.coe_mul, ← coe_sum]

/-- A bias as a row. -/
theorem row_at {b : Vec Ideal S128 .f32} (d : Fin 128) : shapeCast S1x128 b shapeCasts_S128_S1x128 (ix2 0 d) = b (ix1 d) := by
  pointwise

/-- The head mask: one at the columns of head `h`, zero elsewhere. -/
theorem mask_at (h : Fin 8) (c : Fin 136) :
    shapeCast S8x136 (broadcastInDim S8x8x17 ![0, 1] bcast_S8x8_S8x8x17_0_1 (uitofp (F := Ideal) .f32 (cmpi .eq (addi (iotaInDim S8x8 32 0) (broadcastInDim S8x8 ![] bcast_S_S8x8 (constantI S_ 32 0#32))) (iotaInDim S8x8 32 1)))) shapeCasts_S8x8x17_S8x136 (ix2 h c)
      = ((if c.val / 17 = h.val then 1 else 0 : ℝ) : EReal) := by
  pointwise
  have e : IntOp.cmpi .eq (IntOp.addi (BitVec.ofNat 32 h.val) 0#32) (BitVec.ofNat 32 (c.val / 17)) = BitVec.ofBool (decide (c.val / 17 = h.val)) := by
    have h1 := h.isLt
    have h2 := c.isLt
    have : (BitVec.ofNat 32 h.val = BitVec.ofNat 32 (c.val / 17)) ↔ c.val / 17 = h.val := by
      rw [← BitVec.toNat_inj, BitVec.toNat_ofNat, BitVec.toNat_ofNat, Nat.mod_eq_of_lt (by omega), Nat.mod_eq_of_lt (by omega)]
      exact eq_comm
    simp only [IntOp.cmpi, IntOp.addi, BitVec.add_zero, beq_eq_decide, this]
  rw [e]
  by_cases hc : c.val / 17 = h.val
  · rw [if_pos hc, decide_eq_true hc]
    show (((1#1 : BitVec 1).toNat : ℝ) : EReal) = _
    norm_num
  · rw [if_neg hc, decide_eq_false hc]
    show (((0#1 : BitVec 1).toNat : ℝ) : EReal) = _
    norm_num

end Cert.KernelIdeal.Hand

end
-- ==== Proof.KernelIdealTaken.lean ====
/- The rows the kernel's host lines take out of the memory are the rows the reference's take. -/
module

public import proofs.«01_k».proof.Proof.KernelIdealBlocks
public import proofs.«01_k».proof.Proof.Gen.ReferenceIdeal.Read

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]
variable (m : (ℓ : Loc nD τ sig) → Buf (Elt F) ℓ)

set_option maxHeartbeats 2000000 in
/-- The evicted rows of the keys. -/
theorem V_v4 (c : Dev nD) : V m c main_v4 = Cert.ReferenceIdeal.Read.val_main_v34 (F := F) (arr m c main_arg2) (arr m c main_arg4) (arr m c main_arg5) := by
  simp only [V, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

set_option maxHeartbeats 2000000 in
/-- The evicted rows of the values. -/
theorem V_v5 (c : Dev nD) : V m c main_v5 = Cert.ReferenceIdeal.Read.val_main_v35 (F := F) (arr m c main_arg3) (arr m c main_arg4) (arr m c main_arg5) := by
  simp only [V, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

end Cert.KernelIdeal.Hand

end
-- ==== Proof.Gate.lean ====
/- The test that decides whether a slot is rewritten: the two forms of it agree on the extended reals. -/
module

public import proofs.«01_k».proof.Proof.Reals

@[expose] public section

noncomputable section

namespace Cert.Model

open Idealize.ShloMosaic

/-- The bits of 1 denote 1. -/
theorem bits_one : Ideal.ofBits .f32 0x3F800000#32 = ((1 : ℝ) : EReal) := by
  simp [Ideal.ofBits, Ideal.ieee]; rw [← EReal.coe_mul]; norm_num

/-- A square is not negative. -/
theorem sq_nonneg_ereal (x : EReal) : 0 ≤ x * x := by
  induction x with
  | bot => simp
  | top => simp
  | coe r => rw [← EReal.coe_mul]; exact EReal.coe_nonneg.2 (mul_self_nonneg r)

/-- A root of a product over 1/10 is the product over 1/100, also where the first factor is infinite. -/
theorem gate_iff (G : EReal) (hG : 0 ≤ G) (e : ℝ) (he : 0 ≤ e) :
    ((1 / 10 : ℝ) : EReal) < Ideal.sqrt G * Ideal.sqrt (e : EReal) ↔ ((1 / 100 : ℝ) : EReal) < G * (e : EReal) := by
  rw [sqrt_real e he]
  induction G with
  | bot => exact absurd hG (by simp)
  | coe a =>
    have ha : 0 ≤ a := EReal.coe_nonneg.1 hG
    rw [sqrt_real a ha, ← EReal.coe_mul, ← EReal.coe_mul, EReal.coe_lt_coe_iff, EReal.coe_lt_coe_iff, ← Real.sqrt_mul ha,
      Real.lt_sqrt (by norm_num)]
    norm_num
  | top =>
    rw [Ideal.sqrt_top]
    rcases he.eq_or_lt with rfl | h
    · rw [Real.sqrt_zero, EReal.coe_zero, mul_zero]
      constructor <;> intro h <;> exact absurd h (not_lt.2 (EReal.coe_nonneg.2 (by norm_num)))
    · rw [EReal.top_mul_coe_of_pos (Real.sqrt_pos.2 h), EReal.top_mul_coe_of_pos h]
      simp

/-- The bit of the test in the root's form is the bit of the test in the squared form. -/
theorem gate_bit (G : EReal) (hG : 0 ≤ G) (e : ℝ) (he : 0 ≤ e) :
    FloatOps.cmpf (F := Ideal) (φ := .f32) .ogt (FloatOps.mulf (F := Ideal) (φ := .f32) (Ideal.sqrt G) (FloatOps.hostUnary (F := Ideal) (φ := .f32) .sqrt (e : EReal))) ((1 / 10 : ℝ) : EReal)
      = BitVec.ofBool (decide (((1 / 100 : ℝ) : EReal) < G * (e : EReal))) := by
  have h : FloatOps.cmpf (F := Ideal) (φ := .f32) .ogt (FloatOps.mulf (F := Ideal) (φ := .f32) (Ideal.sqrt G) (FloatOps.hostUnary (F := Ideal) (φ := .f32) .sqrt (e : EReal))) ((1 / 10 : ℝ) : EReal)
      = BitVec.ofBool (decide (((1 / 10 : ℝ) : EReal) < Ideal.sqrt G * Ideal.sqrt (e : EReal))) := rfl
  rw [h]
  exact congrArg BitVec.ofBool (decide_eq_decide.2 (gate_iff G hG e he))

/-- The least of finitely many reals is one of them, and clipping commutes with it. -/
theorem inf_real {J : Type*} [Fintype J] [Nonempty J] (g : J → ℝ) (c : ℝ) :
    ∃ δ : ℝ, (Finset.univ.inf fun j => ((g j : ℝ) : EReal)) = (δ : EReal) ∧
      (Finset.univ.inf fun j => max (0 : EReal) ((c + g j : ℝ) : EReal)) = ((max 0 (c + δ) : ℝ) : EReal) := by
  obtain ⟨j, _, hj⟩ := Finset.exists_min_image Finset.univ g Finset.univ_nonempty
  refine ⟨g j, le_antisymm (Finset.inf_le (Finset.mem_univ j)) (Finset.le_inf fun i hi => EReal.coe_le_coe_iff.2 (hj i hi)), ?_⟩
  have e : ∀ i, max (0 : EReal) ((c + g i : ℝ) : EReal) = ((max 0 (c + g i) : ℝ) : EReal) := fun i => by
    rw [← coe_max]; rfl
  simp only [e]
  exact le_antisymm (Finset.inf_le (f := fun i => ((max 0 (c + g i) : ℝ) : EReal)) (Finset.mem_univ j))
    (Finset.le_inf fun i hi => EReal.coe_le_coe_iff.2 (max_le_max le_rfl (by have := hj i hi; linarith)))

end Cert.Model

end
-- ==== Proof.Slots.lean ====
/- The evicted slots: the indices of a top-k are distinct places of the table, a take reads the rows there and a scatter overwrites them. -/
module

public import proofs.«01_k».proof.Proof.Gen.ReferenceIdeal.Read
public import Idealize.ShloMosaic.Lib.Pointwise
public import Idealize.ShloMosaic.Lib.ValueIdx
public import Idealize.ShloMosaic.Lib.SortFacts
public import Idealize.ShloMosaic.Lib.ReduceAll
public import Idealize.ShloMosaic.Lib.Routing.Ops
public import Idealize.ShloMosaic.Lib.Routing.OpsSet
public import Idealize.ShloMosaic.Lib.Routing.OpsPair
public import Idealize.ShloMosaic.Lib.Routing.BitFacts

@[expose] public section

set_option maxRecDepth 16384

noncomputable section

namespace Cert.Slots

open Cert.ReferenceIdeal Cert.ReferenceIdeal.Gen Cert.ReferenceIdeal.Read
open Idealize.ShloMosaic Idealize.ShloMosaic.TcCoe Idealize.ShloMosaic.Routing

/-- Setting a coordinate and reading it back. -/
theorem along_self {s : Shape} (j : s.Idx) (d : Fin s.rank) (k : Fin (s.size d)) : j.along d k d = k := by
  unfold Shape.Idx.along; exact Function.update_self d k j

/-- The index output of a top-k names distinct places of its operand. -/
theorem topK_slots {n k : ℕ} (hn : 0 < n) (hkn : k ≤ n) {α : Type} (gt : α → α → BitVec 1) (x : (⟨1, ![n]⟩ : Shape).Idx → α)
    (h : (⟨1, ![n]⟩ : Shape).Slices (fun _ => 0) ⟨1, ![k]⟩) :
    ∃ σ : Fin k → Fin n, Function.Injective σ ∧ ∀ b : Fin k, (Host.topK ⟨1, ![k]⟩ 0 gt x h).2 (ix1 b) = BitVec.ofNat 32 (σ b).val := by
  let idx : IVec (⟨1, ![n]⟩ : Shape) 32 := fun i => if hd : 0 < (⟨1, ![n]⟩ : Shape).rank then iotaInDim ⟨1, ![n]⟩ 32 ⟨0, hd⟩ i else 0#32
  let cmp : α × BitVec 32 → α × BitVec 32 → BitVec 1 := fun l r => gt l.1 r.1
  let j0 : (⟨1, ![n]⟩ : Shape).Idx := ix1 ⟨0, hn⟩
  let z : Fin (⟨1, ![n]⟩ : Shape).rank := ⟨0, Nat.one_pos⟩
  let π : Fin n → Fin n := sortedFrom (fun i i' : Fin n =>
    cmp (x (j0.along z i), idx (j0.along z i)) (x (j0.along z i'), idx (j0.along z i')) == 1#1)
  have hal : ∀ (j : (⟨1, ![n]⟩ : Shape).Idx) (i : Fin n), j.along z i = j0.along z i := by
    intro j i
    funext a
    obtain rfl : a = z := Subsingleton.elim (α := Fin 1) _ _
    exact (along_self j z i).trans (along_self j0 z i).symm
  refine ⟨fun b => π ⟨b.val, lt_of_lt_of_le b.isLt hkn⟩, fun a b hab => ?_, fun b => ?_⟩
  · have := sortedFrom_injective _ hab
    exact Fin.ext (Fin.mk.inj this)
  · have key : ∀ J : (⟨1, ![n]⟩ : Shape).Idx, J z = (⟨b.val, lt_of_lt_of_le b.isLt hkn⟩ : Fin n) →
        (Host.sort2 (⟨1, ![n]⟩ : Shape) 0 cmp x idx).2 J = BitVec.ofNat 32 (π ⟨b.val, lt_of_lt_of_le b.isLt hkn⟩).val := by
      intro J hJ
      unfold Host.sort2
      rw [dif_pos (show 0 < (⟨1, ![n]⟩ : Shape).rank from Nat.one_pos)]
      show idx (J.along z (sortedFrom (fun i i' : Fin n => cmp (x (J.along z i), idx (J.along z i)) (x (J.along z i'), idx (J.along z i')) == 1#1) (J z))) = _
      simp only [hal J]
      rw [hJ]
      show BitVec.ofNat 32 ((j0.along z _ : (⟨1, ![n]⟩ : Shape).Idx) z).val = _
      rw [along_self]
      rfl
    exact key _ (Fin.ext (Nat.zero_add _))

variable (x0 x1 : Vec Ideal S128x128 .f32) (x2 x3 : Vec Ideal S65536x128 .f32) (x4 x5 : Vec Ideal S65536 .f32)

/-- The evicted slots are distinct places of the memory. -/
theorem slots : ∃ σ : Fin 128 → Fin 65536, Function.Injective σ ∧
    ∀ b : Fin 128, val_main_indices (F := Ideal) x4 x5 (ix1 b) = BitVec.ofNat 32 (σ b).val :=
  topK_slots (n := 65536) (k := 128) (by decide) (by decide) _ _ _

variable {x4 x5} {σ : Fin 128 → Fin 65536} (hσ : ∀ b : Fin 128, val_main_indices (F := Ideal) x4 x5 (ix1 b) = BitVec.ofNat 32 (σ b).val)
include hσ

/-- A slot's word is not negative, so jax's wrap of negative indices leaves it. -/
theorem wrapped (a : BitVec 32) (b : Fin 128) :
    Scalar.select (IntOp.cmpi .slt (val_main_indices (F := Ideal) x4 x5 (ix1 b)) 0#32) a (val_main_indices (F := Ideal) x4 x5 (ix1 b)) = BitVec.ofNat 32 (σ b).val := by
  have h := (σ b).isLt
  rw [hσ, wrap_of_lt]
  rw [BitVec.toNat_ofNat]
  omega

/-- The index column of the first take. -/
theorem take_k_col (b : Fin 128) : val_main_call2_v5 (F := Ideal) x4 x5 (ix2 b 0) = BitVec.ofNat 32 (σ b).val := by
  rw [← wrapped hσ (val_main_call2_v3 (F := Ideal) x4 x5 (ix1 b)) b]
  pointwise [val_main_call2_v5, val_main_call2_v4, val_main_call2_v1, val_main_call2_v0, val_main_call2_c]

/-- The index column of the second take. -/
theorem take_v_col (b : Fin 128) : val_main_call3_v5 (F := Ideal) x4 x5 (ix2 b 0) = BitVec.ofNat 32 (σ b).val := by
  rw [← wrapped hσ (val_main_call3_v3 (F := Ideal) x4 x5 (ix1 b)) b]
  pointwise [val_main_call3_v5, val_main_call3_v4, val_main_call3_v1, val_main_call3_v0, val_main_call3_c]

/-- The index column of the first scatter. -/
theorem put_k_col (b : Fin 128) : val_main_v45 (F := Ideal) x4 x5 (ix2 b 0) = BitVec.ofNat 32 (σ b).val := by
  rw [← wrapped hσ (val_main_v43 (F := Ideal) x4 x5 (ix1 b)) b]
  pointwise [val_main_v45, val_main_v44, val_main_v41, val_main_v40, val_main_c]

/-- The index column of the second scatter. -/
theorem put_v_col (b : Fin 128) : val_main_v52 (F := Ideal) x4 x5 (ix2 b 0) = BitVec.ofNat 32 (σ b).val := by
  rw [← wrapped hσ (val_main_v50 (F := Ideal) x4 x5 (ix1 b)) b]
  pointwise [val_main_v52, val_main_v51, val_main_v48, val_main_v47, val_main_c_8]

/-- A slot's word passes the take's two range tests. -/
theorem inRange (b : Fin 128) : IntOp.andi (IntOp.cmpi .sge (BitVec.ofNat 32 (σ b).val) 0#32) (IntOp.cmpi .sle (BitVec.ofNat 32 (σ b).val) 65535#32) = 1#1 := by
  have h := (σ b).isLt
  generalize (σ b).val = n at h
  have e1 : (BitVec.ofNat 32 n).sle 65535#32 = true := by
    rw [show (65535#32 : BitVec 32) = BitVec.ofNat 32 65535 from rfl, sle_ofNat32 (by omega) (by omega)]; simp; omega
  have e2 : (0#32).sle (BitVec.ofNat 32 n) = true := by
    rw [show (0#32 : BitVec 32) = BitVec.ofNat 32 0 from rfl, sle_ofNat32 (by omega) (by omega)]; simp
  simp [IntOp.cmpi, IntOp.andi, e1, e2]

end Cert.Slots

end
-- ==== Proof.SlotRows.lean ====
/- The rows the reference takes out of the memory, and the memory after it puts rows back. -/
module

public import proofs.«01_k».proof.Proof.Slots

@[expose] public section

set_option maxRecDepth 16384

noncomputable section

namespace Cert.Slots

open Cert.ReferenceIdeal Cert.ReferenceIdeal.Gen Cert.ReferenceIdeal.Read
open Idealize.ShloMosaic Idealize.ShloMosaic.TcCoe Idealize.ShloMosaic.Routing

/-- Where a scatter of whole rows puts an update's element: the row its index word names, the same column. -/
theorem lands_row {R C N : ℕ} (d : ScatterDims (shape2 R C) (shape2 N 1) (shape2 N C)) (huw : d.updateWindowDims = [1])
    (hiw : d.insertedWindowDims = [0]) (hsd : d.scatterDimsToOperandDims = [0]) (hivd : d.indexVectorDim = 1)
    (idx : IVec (shape2 N 1) 32) (n : Fin N) (c' : Fin C) (w r : Fin R) (c : Fin C) (hidx : (idx (ix2 n 0)).toInt = (w.val : Int)) :
    d.resultIdx? (ix2 n c') idx = some (ValueIdx.ix2 r c) ↔ w = r ∧ c' = c := by
  have e : ∀ (l : List (Fin 2)) (n : ℕ) (h : n < l.length) (m : Fin 2), l = [m] → l[n]'h = m := by
    rintro l n h m rfl
    have : n = 0 := by simpa using h
    subst this
    rfl
  have hkept : d.sKept = [1] := by
    show (shape2 R C).kept d.insertedWindowDims = _
    rw [hiw]
    rfl
  have hu : d.uScatter = [0] := by
    show (shape2 N C).kept d.updateWindowDims = _
    rw [huw]
    rfl
  have hm : (0 : Fin 2) ∈ d.scatterDimsToOperandDims := by rw [hsd]; exact List.mem_singleton.2 rfl
  have hwin0 : d.window (ix2 n c') 0 = 0 := by
    unfold ScatterDims.window
    rw [dif_neg fun h => (of_decide_eq_true (List.mem_filter.1 h).2) (by rw [hiw]; exact List.mem_singleton.2 rfl)]
  have hwin1 : d.window (ix2 n c') 1 = c'.val := by
    unfold ScatterDims.window
    rw [dif_pos (by rw [hkept]; exact List.mem_singleton.2 rfl)]
    rw [e _ _ _ 1 huw]
    rfl
  have hstart1 : d.start (ix2 n c') idx 1 = 0 := by
    unfold ScatterDims.start
    rw [dif_neg fun h => by rw [hsd] at h; exact absurd (List.mem_singleton.1 h) (by decide : (1 : Fin 2) ≠ 0)]
  have hstart0 : d.start (ix2 n c') idx 0 = (w.val : Int) := by
    unfold ScatterDims.start
    rw [dif_pos hm]
    have hsi : d.siIdx (ix2 n c') ⟨d.scatterDimsToOperandDims.idxOf 0, List.idxOf_lt_length_iff.2 hm⟩ = ix2 n 0 := by
      funext b
      match b with
      | ⟨0, _⟩ =>
        apply Fin.ext
        unfold ScatterDims.siIdx
        rw [dif_neg (by rw [hivd]; exact (by decide : (0 : ℕ) ≠ 1))]
        unfold ScatterDims.siCoord
        simp only [Fin.val_cast]
        rw [e _ _ _ 0 hu]
        rfl
      | ⟨1, _⟩ => exact Subsingleton.elim (α := Fin 1) _ _
    rw [hsi, hidx]
  rw [Fin.ext_iff, Fin.ext_iff, resultIdx?_ix2, hstart0, hwin0, hstart1, hwin1]
  omega

variable (x0 x1 : Vec Ideal S128x128 .f32) (x2 x3 : Vec Ideal S65536x128 .f32) {x4 x5 : Vec Ideal S65536 .f32}
variable (x6 x8 : Vec Ideal S128x128 .f32) (x7 x9 : Vec Ideal S128 .f32)
variable {σ : Fin 128 → Fin 65536} (hσ : ∀ b : Fin 128, val_main_indices (F := Ideal) x4 x5 (ix1 b) = BitVec.ofNat 32 (σ b).val)
include hσ

/-- The first take reads the evicted rows of the keys. -/
theorem take_k (b k : Fin 128) : val_main_v34 (F := Ideal) x2 x4 x5 (ix2 b k) = x2 (ix2 (σ b) k) := by
  have e12 : val_main_call2_v12 (F := Ideal) x4 x5 (ix1 b) = 1#1 := by
    refine Host.reduce_andi_one _ _ _ _ _ rfl fun i => ?_
    have : val_main_call2_v11 (F := Ideal) x4 x5 i = IntOp.andi (IntOp.cmpi .sge (val_main_call2_v5 (F := Ideal) x4 x5 i) 0#32) (IntOp.cmpi .sle (val_main_call2_v5 (F := Ideal) x4 x5 i) 65535#32) := rfl
    rw [this]
    obtain ⟨r, rfl⟩ : ∃ r : Fin 128, i = ix2 r 0 := ⟨i 0, by
      conv_lhs => rw [eq_ix2 i]
      congr 1
      exact Subsingleton.elim (α := Fin 1) _ _⟩
    rw [take_k_col hσ]
    exact inRange (σ := σ) hσ _
  have e13 : val_main_call2_v13 (F := Ideal) x2 x4 x5 (ix2 b k) = x2 (ix2 (σ b) k) := by
    rw [ix2_eq_valueIdx, ix2_eq_valueIdx]
    refine gather_row _ rfl rfl rfl rfl rfl x2 _ b k (σ b) ?_ (by decide)
    rw [← ix2_eq_valueIdx]
    exact take_k_col hσ b
  have e14 : val_main_call2_v14 (F := Ideal) x4 x5 (ix2 b k) = 1#1 := by
    rw [← e12]
    pointwise [val_main_call2_v14]
  rw [val_main_v34_apply, e14, e13]
  rfl

/-- The second take reads the evicted rows of the values. -/
theorem take_v (b k : Fin 128) : val_main_v35 (F := Ideal) x3 x4 x5 (ix2 b k) = x3 (ix2 (σ b) k) := by
  have e12 : val_main_call3_v12 (F := Ideal) x4 x5 (ix1 b) = 1#1 := by
    refine Host.reduce_andi_one _ _ _ _ _ rfl fun i => ?_
    have : val_main_call3_v11 (F := Ideal) x4 x5 i = IntOp.andi (IntOp.cmpi .sge (val_main_call3_v5 (F := Ideal) x4 x5 i) 0#32) (IntOp.cmpi .sle (val_main_call3_v5 (F := Ideal) x4 x5 i) 65535#32) := rfl
    rw [this]
    obtain ⟨r, rfl⟩ : ∃ r : Fin 128, i = ix2 r 0 := ⟨i 0, by
      conv_lhs => rw [eq_ix2 i]
      congr 1
      exact Subsingleton.elim (α := Fin 1) _ _⟩
    rw [take_v_col hσ]
    exact inRange (σ := σ) hσ _
  have e13 : val_main_call3_v13 (F := Ideal) x3 x4 x5 (ix2 b k) = x3 (ix2 (σ b) k) := by
    rw [ix2_eq_valueIdx, ix2_eq_valueIdx]
    refine gather_row _ rfl rfl rfl rfl rfl x3 _ b k (σ b) ?_ (by decide)
    rw [← ix2_eq_valueIdx]
    exact take_v_col hσ b
  have e14 : val_main_call3_v14 (F := Ideal) x4 x5 (ix2 b k) = 1#1 := by
    rw [← e12]
    pointwise [val_main_call3_v14]
  rw [val_main_v35_apply, e14, e13]
  rfl

omit hσ in
/-- A scatter of rows whose words name the distinct places `σ`, at such a place: the update's row. -/
theorem put_hit (hinj : Function.Injective σ) (x : Vec Ideal S65536x128 .f32) (idx : IVec S128x1 32) (u : Vec Ideal S128x128 .f32)
    (hidx : ∀ b : Fin 128, idx (ix2 b 0) = BitVec.ofNat 32 (σ b).val) (b k : Fin 128) :
    Host.scatter scatter_S65536x128_S128x1_S128x128_1_0_0_1 (fun _ b => b) x idx u (ix2 (σ b) k) = u (ix2 b k) := by
  have ht : ∀ n : Fin 128, (idx (ix2 n 0)).toInt = ((σ n).val : Int) := fun n => by
    rw [hidx, StableHlo.Predicate.toInt_ofNat_small _ (by have := (σ n).isLt; omega)]
  have hl := fun (n c' : Fin 128) (r : Fin 65536) (c : Fin 128) =>
    lands_row scatter_S65536x128_S128x1_S128x128_1_0_0_1 rfl rfl rfl rfl idx n c' (σ n) r c (ht n)
  rw [ix2_eq_valueIdx (σ b) k]
  refine scatter_set_hit _ x idx u _ _ (fun j hj => ?_) (ix2 b k) ((hl b k (σ b) k).2 ⟨rfl, rfl⟩)
  rw [eq_ix2 j] at hj ⊢
  obtain ⟨h1, h2⟩ := (hl _ _ _ _).1 hj
  rw [hinj h1, h2]

omit hσ in
/-- The same scatter at a row no word names: the operand's row. -/
theorem put_miss (x : Vec Ideal S65536x128 .f32) (idx : IVec S128x1 32) (u : Vec Ideal S128x128 .f32)
    (hidx : ∀ b : Fin 128, idx (ix2 b 0) = BitVec.ofNat 32 (σ b).val) (r : Fin 65536) (k : Fin 128) (hr : ∀ b, σ b ≠ r) :
    Host.scatter scatter_S65536x128_S128x1_S128x128_1_0_0_1 (fun _ b => b) x idx u (ix2 r k) = x (ix2 r k) := by
  have ht : ∀ n : Fin 128, (idx (ix2 n 0)).toInt = ((σ n).val : Int) := fun n => by
    rw [hidx, StableHlo.Predicate.toInt_ofNat_small _ (by have := (σ n).isLt; omega)]
  have hl := fun (n c' : Fin 128) (r : Fin 65536) (c : Fin 128) =>
    lands_row scatter_S65536x128_S128x1_S128x128_1_0_0_1 rfl rfl rfl rfl idx n c' (σ n) r c (ht n)
  rw [ix2_eq_valueIdx r k]
  refine scatter_set_miss _ x idx u _ fun j hj => ?_
  rw [eq_ix2 j] at hj
  exact hr _ ((hl _ _ _ _).1 hj).1

end Cert.Slots

end
-- ==== Proof.RefGate.lean ====
/- The reference's test on each query, and the rows it puts into the memory. -/
module

public import proofs.«01_k».proof.Proof.Gen.ReferenceIdeal.Read
public import proofs.«01_k».proof.Proof.Gate
public import Idealize.ShloMosaic.Lib.Pointwise
public import Idealize.ShloMosaic.Lib.ValueIdx

@[expose] public section

set_option maxRecDepth 16384

noncomputable section

namespace Cert.RefValue

open Cert.ReferenceIdeal Cert.ReferenceIdeal.Gen Cert.ReferenceIdeal.Read Cert.Model
open Idealize.ShloMosaic Idealize.ShloMosaic.TcCoe

variable {x0 x1 : Vec Ideal S128x128 .f32} {x2 x3 : Vec Ideal S65536x128 .f32} {x4 x5 : Vec Ideal S65536 .f32} {x6 x8 : Vec Ideal S128x128 .f32} {x7 x9 : Vec Ideal S128 .f32}
variable {f : Fin 128 → Fin 128 → ℝ} {K : Fin 65536 → Fin 128 → ℝ} {W : Fin 128 → Fin 128 → ℝ} {B : Fin 128 → ℝ}

/-- The squared distance of a query and a key, clipped at zero. -/
theorem dist_at (h0 : ∀ i j, x0 (ix2 i j) = (f i j : EReal)) (h2 : ∀ i j, x2 (ix2 i j) = (K i j : EReal)) (b : Fin 128) (j : Fin 65536) :
    val_main_v15 (F := Ideal) x0 x2 (ix2 b j)
      = max (0 : EReal) (((∑ d, f b d * f b d) + ((∑ d, K j d * K j d) - 2 * ∑ d, f b d * K j d) : ℝ) : EReal) := by
  have e6 : ∀ j : Fin 65536, val_main_v5 (F := Ideal) x2 (ix1 j) = ((∑ d, K j d * K j d : ℝ) : EReal) := by
    intro j
    pointwise [val_main_v5, val_main_v4, val_main_cst_0]
    simp only [h2, ← EReal.coe_mul, ← coe_sum]
  have e3 : val_main_v2 (F := Ideal) x0 (ix1 b) = ((∑ d, f b d * f b d : ℝ) : EReal) := by
    pointwise [val_main_v2, val_main_v1, val_main_cst]
    simp only [h0, ← EReal.coe_mul, ← coe_sum]
  have e8 : val_main_v8 (F := Ideal) x2 (ix2 b j) = val_main_v5 (F := Ideal) x2 (ix1 j) := by
    pointwise [val_main_v8, val_main_v6]
  have e7 : val_main_v7 (F := Ideal) x0 (ix2 b j) = val_main_v2 (F := Ideal) x0 (ix1 b) := by
    pointwise [val_main_v7, val_main_v3]
  have e11 : val_main_v11 (F := Ideal) x0 x2 (ix2 b j) = ((∑ d, f b d * K j d : ℝ) : EReal) := by
    pointwise [val_main_v11, val_main_v10]
    simp only [h0, h2, ← EReal.coe_mul, ← coe_sum]
  have e12 : val_main_v12 (F := Ideal) (ix2 b j) = ((2 : ℝ) : EReal) := by
    rw [← bits_two]
    pointwise [val_main_v12, val_main_cst_1]
  have e1 : val_main_call1_v1 (F := Ideal) (ix2 b j) = 0 := by
    have : val_main_call1_v1 (F := Ideal) (ix2 b j) = Ideal.ofBits .f32 0x00000000#32 := by
      rw [val_main_call1_v1_apply]
      rfl
    rw [this]
    exact Ideal.ofBits_zero_f32
  rw [val_main_v15_apply, val_main_v14_apply, val_main_v9_apply, val_main_v13_apply, e1, e7, e8, e3, e6, e11, e12]
  show max (0 : EReal) ((((_ : ℝ) : EReal) + ((_ : ℝ) : EReal)) - ((2 : ℝ) : EReal) * ((_ : ℝ) : EReal)) = _
  rw [← EReal.coe_mul, ← EReal.coe_add, ← EReal.coe_sub, add_sub_assoc]

/-- The least of the last axis, read at an entry. -/
theorem least_value {n : ℕ} (y : Vec Ideal ⟨2, ![128, n]⟩ .f32) (v : Vec Ideal S_ .f32) (hr : (⟨2, ![128, n]⟩ : Shape).ReducesTo [1] S128) (b : Fin 128) :
    Host.reduce (FloatOps.minimumf (F := Ideal) (φ := .f32)) y v hr h_S_ (ix1 b) = Finset.univ.fold min (v (Shape.Idx.first h_S_)) fun j : Fin n => y (ix2 b j) := by
  pointwise

/-- The reference's bit: the gradient's square against the clipped least distance, over 1/100. -/
theorem bit_at (h0 : ∀ i j, x0 (ix2 i j) = (f i j : EReal)) (h2 : ∀ i j, x2 (ix2 i j) = (K i j : EReal)) (b : Fin 128) (δ : ℝ)
    (hδ : (Finset.univ.inf fun j => max (0 : EReal) (((∑ d, f b d * f b d) + ((∑ d, K j d * K j d) - 2 * ∑ d, f b d * K j d) : ℝ) : EReal)) = ((max 0 ((∑ d, f b d * f b d) + δ) : ℝ) : EReal)) :
    val_main_v21 (F := Ideal) x0 x1 x2 (ix1 b) = BitVec.ofBool (decide (((1 / 100 : ℝ) : EReal) <
      (∑ k, x1 (ix2 b k) * x1 (ix2 b k)) * ((max 0 ((∑ d, f b d * f b d) + δ) : ℝ) : EReal))) := by
  have e16 : val_main_v16 (F := Ideal) x0 x2 (ix1 b) = ((max 0 ((∑ d, f b d * f b d) + δ) : ℝ) : EReal) := by
    have hd := dist_at h0 h2 b
    have e3 : val_main_cst_3 (F := Ideal) (Shape.Idx.first h_S_) = ⊤ := by
      rw [← bits_top]
      rfl
    unfold val_main_v16
    generalize val_main_v15 (F := Ideal) x0 x2 = y at hd ⊢
    rw [least_value y (val_main_cst_3 (F := Ideal)) reducesTo_S128x65536_S128_d1 b, e3]
    generalize hy : (fun j : Fin 65536 => y (ix2 b j)) = g
    obtain rfl : g = fun j => max (0 : EReal) (((∑ d, f b d * f b d) + ((∑ d, K j d * K j d) - 2 * ∑ d, f b d * K j d) : ℝ) : EReal) := by rw [← hy]; funext j; exact hd j
    rw [fold_min_inf]
    exact hδ
  have e0 : val_main_v0 (F := Ideal) x1 (ix1 b) = Ideal.sqrt (∑ k, x1 (ix2 b k) * x1 (ix2 b k)) := by
    pointwise [val_main_v0, val_main_call0_v1, val_main_call0_v0, val_main_call0_cst]
  have e20 : val_main_v20 (F := Ideal) (ix1 b) = ((1 / 10 : ℝ) : EReal) := by
    have : val_main_v20 (F := Ideal) (ix1 b) = Ideal.div (Ideal.ofBits .f32 0x3F800000#32) (Ideal.ofBits .f32 0x41200000#32) := by
      rw [val_main_v20_apply]
      rfl
    rw [this, bits_one, bits_ten, div_real _ _ (by norm_num)]
  rw [val_main_v21_apply, val_main_v18_apply, val_main_v17_apply, e16, e0, e20]
  generalize (∑ d, f b d * f b d) + δ = ε
  generalize hG : (∑ k, x1 (ix2 b k) * x1 (ix2 b k)) = G
  have hG0 : 0 ≤ G := by rw [← hG]; exact Finset.sum_nonneg fun k _ => sq_nonneg_ereal (x1 (ix2 b k))
  exact gate_bit G hG0 (max 0 ε) (le_max_left 0 _)

/-- The new key rows: the encoder's where the bit is set, the evicted row where it is not. -/
theorem newKey_at {P : Fin 128 → Prop} [DecidablePred P] {O : Fin 128 → Fin 128 → ℝ} (h0 : ∀ i j, x0 (ix2 i j) = (f i j : EReal))
    (hP : ∀ b, val_main_v21 (F := Ideal) x0 x1 x2 (ix1 b) = BitVec.ofBool (decide (P b))) (h6 : ∀ i j, x6 (ix2 i j) = (W i j : EReal)) (h7 : ∀ i, x7 (ix1 i) = (B i : EReal))
    (hO : ∀ b k, val_main_v34 (F := Ideal) x2 x4 x5 (ix2 b k) = (O b k : EReal)) (b k : Fin 128) :
    val_main_v37 (F := Ideal) x0 x1 x2 x4 x5 x6 x7 (ix2 b k) = ((if P b then (∑ j, f b j * W j k) + B k else O b k : ℝ) : EReal) := by
  have e : val_main_call4_v0 (F := Ideal) x0 x1 x2 (ix2 b k) = val_main_v21 (F := Ideal) x0 x1 x2 (ix1 b) := by
    generalize hv : val_main_v21 (F := Ideal) x0 x1 x2 = y
    unfold val_main_call4_v0 val_main_v36
    rw [hv]
    pointwise
  have e29 : val_main_v29 (F := Ideal) x0 x6 x7 (ix2 b k) = (((∑ j, f b j * W j k) + B k : ℝ) : EReal) := by
    pointwise [val_main_v29, val_main_v26, val_main_v28, val_main_v27]
    simp only [h0, h6, h7, ← EReal.coe_mul, ← coe_sum, ← EReal.coe_add]
  rw [val_main_v37_apply, e, e29, hP, hO]
  by_cases h : P b
  · rw [if_pos h, decide_eq_true h]; rfl
  · rw [if_neg h, decide_eq_false h]; rfl

/-- The new value rows. -/
theorem newValue_at {P : Fin 128 → Prop} [DecidablePred P] {O : Fin 128 → Fin 128 → ℝ} (h0 : ∀ i j, x0 (ix2 i j) = (f i j : EReal))
    (hP : ∀ b, val_main_v21 (F := Ideal) x0 x1 x2 (ix1 b) = BitVec.ofBool (decide (P b))) (h8 : ∀ i j, x8 (ix2 i j) = (W i j : EReal)) (h9 : ∀ i, x9 (ix1 i) = (B i : EReal))
    (hO : ∀ b k, val_main_v35 (F := Ideal) x3 x4 x5 (ix2 b k) = (O b k : EReal)) (b k : Fin 128) :
    val_main_v39 (F := Ideal) x0 x1 x2 x3 x4 x5 x8 x9 (ix2 b k) = ((if P b then (∑ j, f b j * W j k) + B k else O b k : ℝ) : EReal) := by
  have e : val_main_call5_v0 (F := Ideal) x0 x1 x2 (ix2 b k) = val_main_v21 (F := Ideal) x0 x1 x2 (ix1 b) := by
    generalize hv : val_main_v21 (F := Ideal) x0 x1 x2 = y
    unfold val_main_call5_v0 val_main_v38
    rw [hv]
    pointwise
  have e33 : val_main_v33 (F := Ideal) x0 x8 x9 (ix2 b k) = (((∑ j, f b j * W j k) + B k : ℝ) : EReal) := by
    pointwise [val_main_v33, val_main_v30, val_main_v32, val_main_v31]
    simp only [h0, h8, h9, ← EReal.coe_mul, ← coe_sum, ← EReal.coe_add]
  rw [val_main_v39_apply, e, e33, hP, hO]
  by_cases h : P b
  · rw [if_pos h, decide_eq_true h]; rfl
  · rw [if_neg h, decide_eq_false h]; rfl

end Cert.RefValue

end
-- ==== Proof.RefProjections.lean ====
/- The reference's queries, keys and values of each head, as two affine layers on real numbers. -/
module

public import proofs.«01_k».proof.Proof.Gen.ReferenceIdeal.Read
public import proofs.«01_k».proof.Proof.Reals
public import Idealize.ShloMosaic.Lib.Pointwise
public import Idealize.ShloMosaic.Lib.ValueIdx
public import Mathlib.Tactic.Ring

@[expose] public section

set_option maxRecDepth 16384

noncomputable section

namespace Cert.RefValue

open Cert.ReferenceIdeal Cert.ReferenceIdeal.Gen Cert.ReferenceIdeal.Read Cert.Model
open Idealize.ShloMosaic Idealize.ShloMosaic.TcCoe

/-- An affine layer: the vector times the weights, plus the bias. -/
def affine {D A : ℕ} (x : Fin D → ℝ) (w : Fin D → Fin A → ℝ) (b : Fin A → ℝ) (a : Fin A) : ℝ := (∑ d, x d * w d a) + b a

/-- The column `t` of head `h` among the 136. -/
def col (h : Fin 8) (t : Fin 17) : Fin 136 := ⟨h.val * 17 + t.val, by have := h.isLt; have := t.isLt; omega⟩

variable {x0 x1 : Vec Ideal S128x128 .f32} {x2 x3 : Vec Ideal S65536x128 .f32} {x4 x5 : Vec Ideal S65536 .f32}
variable {x6 x8 : Vec Ideal S128x128 .f32} {x7 x9 : Vec Ideal S128 .f32} {x10 : Vec Ideal S128x136 .f32} {x11 : Vec Ideal S136 .f32}
variable {x12 x14 x16 x18 : Vec Ideal S136x136 .f32} {x13 x15 x17 x19 : Vec Ideal S136 .f32} {x20 : Vec Ideal S136x128 .f32} {x21 : Vec Ideal S128 .f32}
variable {f : Fin 128 → Fin 128 → ℝ} {NK NV : Fin 65536 → Fin 128 → ℝ} {WP : Fin 128 → Fin 136 → ℝ} {BP : Fin 136 → ℝ}
variable {W : Fin 136 → Fin 136 → ℝ} {B : Fin 136 → ℝ}

/-- The queries, head by head. -/
theorem queries_at (h0 : ∀ i j, x0 (ix2 i j) = (f i j : EReal)) (h10 : ∀ i j, x10 (ix2 i j) = (WP i j : EReal)) (h11 : ∀ i, x11 (ix1 i) = (BP i : EReal))
    (h12 : ∀ i j, x12 (ix2 i j) = (W i j : EReal)) (h13 : ∀ i, x13 (ix1 i) = (B i : EReal)) (b : Fin 128) (h : Fin 8) (t : Fin 17) :
    val_main_v70 (F := Ideal) x0 x10 x11 x12 x13 (ix3 b h t) = (affine (affine (f b) WP BP) W B (col h t) : EReal) := by
  pointwise [val_main_v70, val_main_v69, val_main_v66, val_main_v68, val_main_v67, val_main_v57, val_main_v54, val_main_v56, val_main_v55]
  simp only [h0, h10, h11, h12, h13, ← EReal.coe_mul, ← coe_sum, ← EReal.coe_add]
  rfl

/-- A row of 136 columns split into heads of 17. -/
theorem split_heads (y : Vec Ideal S65536x136 .f32) (j : Fin 65536) (h : Fin 8) (t : Fin 17) :
    shapeCast S65536x8x17 y shapeCasts_S65536x136_S65536x8x17 (ix3 j h t) = y (ix2 j (col h t)) :=
  shapeCast_apply y shapeCasts_S65536x136_S65536x8x17 (ix3 j h t) (ix2 j (col h t)) (by
    rewrite [Shape.rowMajor_val_two, Shape.rowMajor_val_three]
    show j.val * 136 + (h.val * 17 + t.val) = (j.val * 8 + h.val) * 17 + t.val
    ring)

/-- Two affine layers of the memory's rows, split into heads. -/
theorem layers_at {y : Vec Ideal S65536x128 .f32} {x15 : Vec Ideal S136 .f32} (hy : ∀ i j, y (ix2 i j) = (NK i j : EReal)) (h10 : ∀ i j, x10 (ix2 i j) = (WP i j : EReal))
    (h11 : ∀ i, x11 (ix1 i) = (BP i : EReal)) (h14 : ∀ i j, x14 (ix2 i j) = (W i j : EReal)) (h15 : ∀ i, x15 (ix1 i) = (B i : EReal)) (j : Fin 65536) (h : Fin 8) (t : Fin 17) :
    shapeCast S65536x8x17 (addf (F := Ideal) (φ := .f32) (Host.dotGeneral (F := Ideal) (φ₁ := .f32) (φ₂ := .f32) dot_S65536x136_S136x136_S65536x136_1_0_0_1_n_n none
      (addf (F := Ideal) (φ := .f32) (Host.dotGeneral (F := Ideal) (φ₁ := .f32) (φ₂ := .f32) dot_S65536x128_S128x136_S65536x136_1_0_0_1_n_n none y x10)
        (broadcastInDim S65536x136 ![0, 1] bcast_S1x136_S65536x136_0_1 (broadcastInDim S1x136 ![1] bcast_S136_S1x136_1 x11))) x14)
        (broadcastInDim S65536x136 ![0, 1] bcast_S1x136_S65536x136_0_1 (broadcastInDim S1x136 ![1] bcast_S136_S1x136_1 x15))) shapeCasts_S65536x136_S65536x8x17 (ix3 j h t)
      = (affine (affine (NK j) WP BP) W B (col h t) : EReal) := by
  have e1 : ∀ (x : Vec Ideal S65536x128 .f32) (w : Vec Ideal S128x136 .f32) (c : Fin 136), Host.dotGeneral (F := Ideal) (φ₁ := .f32) (φ₂ := .f32) dot_S65536x128_S128x136_S65536x136_1_0_0_1_n_n none x w (ix2 j c) = ∑ d, x (ix2 j d) * w (ix2 d c) := by
    intro x w c; pointwise
  have e2 : ∀ (x : Vec Ideal S65536x136 .f32) (w : Vec Ideal S136x136 .f32) (c : Fin 136), Host.dotGeneral (F := Ideal) (φ₁ := .f32) (φ₂ := .f32) dot_S65536x136_S136x136_S65536x136_1_0_0_1_n_n none x w (ix2 j c) = ∑ d, x (ix2 j d) * w (ix2 d c) := by
    intro x w c; pointwise
  have e3 : ∀ (b : Vec Ideal S136 .f32) (c : Fin 136), broadcastInDim S65536x136 ![0, 1] bcast_S1x136_S65536x136_0_1 (broadcastInDim S1x136 ![1] bcast_S136_S1x136_1 b) (ix2 j c) = b (ix1 c) := by
    intro b c; pointwise
  have e4 : ∀ (x y : Vec Ideal S65536x136 .f32) (c : Fin 136), addf (F := Ideal) (φ := .f32) x y (ix2 j c) = x (ix2 j c) + y (ix2 j c) := by
    intro x y c; pointwise
  rw [split_heads]
  simp only [e1, e2, e3, e4, hy, h10, h11, h14, h15, ← EReal.coe_mul, ← coe_sum, ← EReal.coe_add, affine]

/-- The keys, head by head. -/
theorem keys_at (h46 : ∀ i j, val_main_v46 (F := Ideal) x0 x1 x2 x4 x5 x6 x7 (ix2 i j) = (NK i j : EReal)) (h10 : ∀ i j, x10 (ix2 i j) = (WP i j : EReal)) (h11 : ∀ i, x11 (ix1 i) = (BP i : EReal))
    (h14 : ∀ i j, x14 (ix2 i j) = (W i j : EReal)) (h15 : ∀ i, x15 (ix1 i) = (B i : EReal)) (j : Fin 65536) (h : Fin 8) (t : Fin 17) :
    val_main_v75 (F := Ideal) x0 x1 x2 x4 x5 x6 x7 x10 x11 x14 x15 (ix3 j h t) = (affine (affine (NK j) WP BP) W B (col h t) : EReal) := by
  unfold val_main_v75 val_main_v74 val_main_v71 val_main_v73 val_main_v72 val_main_v61 val_main_v58 val_main_v60 val_main_v59
  exact layers_at h46 h10 h11 h14 h15 j h t

/-- The values, head by head. -/
theorem values_at (h53 : ∀ i j, val_main_v53 (F := Ideal) x0 x1 x2 x3 x4 x5 x8 x9 (ix2 i j) = (NV i j : EReal)) (h10 : ∀ i j, x10 (ix2 i j) = (WP i j : EReal)) (h11 : ∀ i, x11 (ix1 i) = (BP i : EReal))
    (h16 : ∀ i j, x16 (ix2 i j) = (W i j : EReal)) (h17 : ∀ i, x17 (ix1 i) = (B i : EReal)) (j : Fin 65536) (h : Fin 8) (t : Fin 17) :
    val_main_v80 (F := Ideal) x0 x1 x2 x3 x4 x5 x8 x9 x10 x11 x16 x17 (ix3 j h t) = (affine (affine (NV j) WP BP) W B (col h t) : EReal) := by
  unfold val_main_v80 val_main_v79 val_main_v76 val_main_v78 val_main_v77 val_main_v65 val_main_v62 val_main_v64 val_main_v63
  exact layers_at h53 h10 h11 h16 h17 j h t

end Cert.RefValue

end
-- ==== Proof.RefAttend.lean ====
/- The reference's attention over the updated memory, on real numbers. -/
module

public import proofs.«01_k».proof.Proof.Gen.ReferenceIdeal.Read
public import proofs.«01_k».proof.Proof.Reals
public import proofs.«01_k».proof.Proof.RefProjections
public import Idealize.ShloMosaic.Lib.Pointwise

@[expose] public section

set_option maxRecDepth 16384

noncomputable section

namespace Cert.RefValue

open Cert.ReferenceIdeal Cert.ReferenceIdeal.Gen Cert.ReferenceIdeal.Read Cert.Model
open Idealize.ShloMosaic Idealize.ShloMosaic.TcCoe

variable {x0 x1 : Vec Ideal S128x128 .f32} {x2 x3 : Vec Ideal S65536x128 .f32} {x4 x5 : Vec Ideal S65536 .f32}
variable {x6 x8 : Vec Ideal S128x128 .f32} {x7 x9 : Vec Ideal S128 .f32} {x10 : Vec Ideal S128x136 .f32} {x11 : Vec Ideal S136 .f32}
variable {x12 x14 x16 x18 : Vec Ideal S136x136 .f32} {x13 x15 x17 x19 : Vec Ideal S136 .f32} {x20 : Vec Ideal S136x128 .f32} {x21 : Vec Ideal S128 .f32}
variable {q : Fin 128 → Fin 8 → Fin 17 → ℝ} {k v : Fin 65536 → Fin 8 → Fin 17 → ℝ}

/-- The scores: the product of query and key over √17. -/
theorem scores_at (hq : ∀ b h t, val_main_v70 (F := Ideal) x0 x10 x11 x12 x13 (ix3 b h t) = (q b h t : EReal))
    (hk : ∀ j h t, val_main_v75 (F := Ideal) x0 x1 x2 x4 x5 x6 x7 x10 x11 x14 x15 (ix3 j h t) = (k j h t : EReal)) (b : Fin 128) (h : Fin 8) (j : Fin 65536) :
    val_main_v86 (F := Ideal) x0 x1 x2 x4 x5 x6 x7 x10 x11 x12 x13 x14 x15 (ix3 b h j) = (((∑ t, k j h t * q b h t) / √17 : ℝ) : EReal) := by
  pointwise [val_main_v86, val_main_v82, val_main_v81, val_main_v85, val_main_v84, val_main_v83, val_main_cst_10]
  simp only [hq, hk, bits_seventeen, ← EReal.coe_mul, ← coe_sum]
  have e : id (Host.sqrt (constant (F := Ideal) S_ .f32 0x41880000#32)) ix0 = ((√17 : ℝ) : EReal) := by
    show Ideal.sqrt (Ideal.ofBits .f32 0x41880000#32) = _
    rw [bits_seventeen, sqrt_real _ (by norm_num)]
  rw [e, div_real _ _ (by positivity)]

/-- The largest of the last axis, read at an entry. -/
theorem top_value {n : ℕ} (y : Vec Ideal ⟨3, ![128, 8, n]⟩ .f32) (v : Vec Ideal S_ .f32) (hr : (⟨3, ![128, 8, n]⟩ : Shape).ReducesTo [2] S128x8) (b : Fin 128) (h : Fin 8) :
    Host.reduce (FloatOps.maximumf (F := Ideal) (φ := .f32)) y v hr h_S_ (ix2 b h) = Finset.univ.fold max (v (Shape.Idx.first h_S_)) fun j : Fin n => y (ix3 b h j) := by
  pointwise

/-- The largest score of a head and query is some real number. -/
theorem top_at {s : Fin 128 → Fin 8 → Fin 65536 → ℝ} (hs : ∀ b h j, val_main_v86 (F := Ideal) x0 x1 x2 x4 x5 x6 x7 x10 x11 x12 x13 x14 x15 (ix3 b h j) = (s b h j : EReal)) :
    ∃ M : Fin 128 → Fin 8 → ℝ, ∀ b h, val_main_v89 (F := Ideal) x0 x1 x2 x4 x5 x6 x7 x10 x11 x12 x13 x14 x15 (ix2 b h) = (M b h : EReal) := by
  have key : ∀ b h, ∃ c : ℝ, val_main_v89 (F := Ideal) x0 x1 x2 x4 x5 x6 x7 x10 x11 x12 x13 x14 x15 (ix2 b h) = (c : EReal) := by
    intro b h
    obtain ⟨c, hc⟩ := fold_max_nonempty (s b h)
    refine ⟨c, ?_⟩
    rw [← hc]
    have e8 : val_main_v88 (F := Ideal) (ix2 b h) = ⊥ := by
      rw [← bits_bot]
      pointwise [val_main_v88, val_main_cst_12]
    have e11 : val_main_cst_11 (F := Ideal) (Shape.Idx.first h_S_) = ⊥ := by
      rw [← bits_bot]
      rfl
    unfold val_main_v89 val_main_v87
    generalize val_main_v86 (F := Ideal) x0 x1 x2 x4 x5 x6 x7 x10 x11 x12 x13 x14 x15 = y at hs ⊢
    rw [maximumf_apply, top_value y (val_main_cst_11 (F := Ideal)) reducesTo_S128x8x65536_S128x8_d2 b h, e8, e11]
    generalize hy : (fun j : Fin 65536 => y (ix3 b h j)) = g
    obtain rfl : g = fun j => (s b h j : EReal) := by rw [← hy]; funext j; exact hs b h j
    exact max_eq_right bot_le
  choose M hM using key
  exact ⟨M, hM⟩

/-- The weighted mean of the values, head by head, weighted by the exponentials of the scores. -/
theorem context_at {s : Fin 128 → Fin 8 → Fin 65536 → ℝ} {M : Fin 128 → Fin 8 → ℝ}
    (hs : ∀ b h j, val_main_v86 (F := Ideal) x0 x1 x2 x4 x5 x6 x7 x10 x11 x12 x13 x14 x15 (ix3 b h j) = (s b h j : EReal)) (hM : ∀ b h, val_main_v89 (F := Ideal) x0 x1 x2 x4 x5 x6 x7 x10 x11 x12 x13 x14 x15 (ix2 b h) = (M b h : EReal))
    (hv : ∀ j h t, val_main_v80 (F := Ideal) x0 x1 x2 x3 x4 x5 x8 x9 x10 x11 x16 x17 (ix3 j h t) = (v j h t : EReal)) (b : Fin 128) (h : Fin 8) (t : Fin 17) :
    val_main_v99 (F := Ideal) x0 x1 x2 x3 x4 x5 x6 x7 x8 x9 x10 x11 x12 x13 x14 x15 x16 x17 (ix3 b h t)
      = ((∑ j, v j h t * (Real.exp (s b h j - M b h) / ∑ i, Real.exp (s b h i - M b h)) : ℝ) : EReal) := by
  have hpos : ∀ b h, (∑ i, Real.exp (s b h i - M b h)) ≠ 0 := fun b h =>
    (Finset.sum_pos (fun i _ => Real.exp_pos _) ⟨0, Finset.mem_univ _⟩).ne'
  pointwise [val_main_v99, val_main_v98, val_main_v97, val_main_v96, val_main_v95, val_main_v94, val_main_v93, val_main_v92, val_main_v91, val_main_v90, val_main_cst_13]
  simp only [hs, hM, hv, ← EReal.coe_sub, Ideal.exp_coe, ← coe_sum]
  simp only [div_real _ _ (hpos _ _), ← EReal.coe_mul, ← coe_sum]

/-- The heads' columns side by side. -/
theorem join_heads (y : Vec Ideal S128x8x17 .f32) (b : Fin 128) (c : Fin 136) :
    shapeCast S128x136 y shapeCasts_S128x8x17_S128x136 (ix2 b c) = y (ix3 b ⟨c.val / 17, by have := c.isLt; omega⟩ ⟨c.val % 17, by omega⟩) :=
  shapeCast_apply y shapeCasts_S128x8x17_S128x136 (ix2 b c) (ix3 b ⟨c.val / 17, by have := c.isLt; omega⟩ ⟨c.val % 17, by omega⟩) (by
    rewrite [Shape.rowMajor_val_two, Shape.rowMajor_val_three]
    show (b.val * 8 + c.val / 17) * 17 + c.val % 17 = b.val * 136 + c.val
    omega)

/-- The output: the context through the attention's and the operation's output layers. -/
theorem output_at {ctx : Fin 128 → Fin 8 → Fin 17 → ℝ} {WA : Fin 136 → Fin 136 → ℝ} {BA : Fin 136 → ℝ} {WO : Fin 136 → Fin 128 → ℝ}
    (hc : ∀ b h t, val_main_v99 (F := Ideal) x0 x1 x2 x3 x4 x5 x6 x7 x8 x9 x10 x11 x12 x13 x14 x15 x16 x17 (ix3 b h t) = (ctx b h t : EReal))
    (h18 : ∀ i j, x18 (ix2 i j) = (WA i j : EReal)) (h19 : ∀ i, x19 (ix1 i) = (BA i : EReal)) (h20 : ∀ i j, x20 (ix2 i j) = (WO i j : EReal)) (b d : Fin 128) :
    val_main_v108 (F := Ideal) x0 x1 x2 x3 x4 x5 x6 x7 x8 x9 x10 x11 x12 x13 x14 x15 x16 x17 x18 x19 x20 x21 (ix2 b d)
      = ((∑ a, affine (fun c : Fin 136 => ctx b ⟨c.val / 17, by have := c.isLt; omega⟩ ⟨c.val % 17, by omega⟩) WA BA a * WO a d : ℝ) : EReal) + x21 (ix1 d) := by
  have e1 : ∀ (x : Vec Ideal S128x136 .f32) (w : Vec Ideal S136x136 .f32) (c : Fin 136), Host.dotGeneral (F := Ideal) (φ₁ := .f32) (φ₂ := .f32) dot_S128x136_S136x136_S128x136_1_0_0_1_n_n none x w (ix2 b c) = ∑ d, x (ix2 b d) * w (ix2 d c) := by
    intro x w c; pointwise
  have e2 : ∀ (x : Vec Ideal S128x136 .f32) (w : Vec Ideal S136x128 .f32) (c : Fin 128), Host.dotGeneral (F := Ideal) (φ₁ := .f32) (φ₂ := .f32) dot_S128x136_S136x128_S128x128_1_0_0_1_n_n none x w (ix2 b c) = ∑ d, x (ix2 b d) * w (ix2 d c) := by
    intro x w c; pointwise
  have e3 : ∀ (c : Fin 136), val_main_v103 (F := Ideal) x19 (ix2 b c) = x19 (ix1 c) := by
    intro c; pointwise [val_main_v103, val_main_v102]
  have e4 : ∀ (c : Fin 128), val_main_v107 (F := Ideal) x21 (ix2 b c) = x21 (ix1 c) := by
    intro c; pointwise [val_main_v107, val_main_v106]
  have e5 : ∀ (x y : Vec Ideal S128x136 .f32) (c : Fin 136), addf (F := Ideal) (φ := .f32) x y (ix2 b c) = x (ix2 b c) + y (ix2 b c) := fun _ _ _ => rfl
  have e6 : ∀ (x y : Vec Ideal S128x128 .f32) (c : Fin 128), addf (F := Ideal) (φ := .f32) x y (ix2 b c) = x (ix2 b c) + y (ix2 b c) := fun _ _ _ => rfl
  have e7 : ∀ (c : Fin 136), val_main_v100 (F := Ideal) x0 x1 x2 x3 x4 x5 x6 x7 x8 x9 x10 x11 x12 x13 x14 x15 x16 x17 (ix2 b c) = (ctx b ⟨c.val / 17, by have := c.isLt; omega⟩ ⟨c.val % 17, by omega⟩ : EReal) := by
    intro c
    unfold val_main_v100
    exact (join_heads _ b c).trans (hc _ _ _)
  unfold val_main_v108 val_main_v105 val_main_v104 val_main_v101
  simp only [e1, e2, e3, e4, e5, e6, e7, h18, h19, h20, ← EReal.coe_mul, ← coe_sum, ← EReal.coe_add, affine]

end Cert.RefValue

end
-- ==== Proof.SameMean.lean ====
/- Over the real numbers: the kernel's folded queries, streamed means and composed layers give the reference's heads, softmax and layers. -/
module

public import proofs.«01_k».proof.Proof.KernelIdealStep
public import proofs.«01_k».proof.Proof.KernelIdealInit
public import proofs.«01_k».proof.Proof.KernelIdealLast
public import proofs.«01_k».proof.Proof.RefProjections

@[expose] public section

noncomputable section

namespace Cert.Bridge

open Cert.Model Cert.RefValue Cert.KernelIdeal.Hand

/-- The mask of the heads: one at the 17 columns of head `h`. -/
def headMask (h : Fin 8) (c : Fin 136) : ℝ := if c.val / 17 = h.val then 1 else 0

/-- The columns of a head, as places among the 136. -/
def colEmb (h : Fin 8) : Fin 17 ↪ Fin 136 :=
  ⟨col h, fun a b e => Fin.ext (by have := congrArg Fin.val e; simp only [col] at this; omega)⟩

/-- A sum under a head's mask is the sum over the head's columns. -/
theorem sum_head (h : Fin 8) (X : Fin 136 → ℝ) : ∑ c, X c * headMask h c = ∑ t, X (col h t) := by
  have e : (Finset.univ.filter fun c : Fin 136 => c.val / 17 = h.val) = Finset.univ.map (colEmb h) := by
    ext c
    simp only [Finset.mem_filter, Finset.mem_univ, true_and, Finset.mem_map]
    constructor
    · intro hc
      refine ⟨⟨c.val % 17, by omega⟩, Fin.ext ?_⟩
      show h.val * 17 + c.val % 17 = c.val
      omega
    · rintro ⟨t, rfl⟩
      have := t.isLt
      show (h.val * 17 + t.val) / 17 = h.val
      omega
  simp only [headMask, mul_ite, mul_one, mul_zero]
  rw [← Finset.sum_filter, e, Finset.sum_map]
  rfl

/-- A column is the column of its head and its place in the head. -/
theorem col_self (c : Fin 136) (h1 : c.val / 17 < 8) (h2 : c.val % 17 < 17) : col ⟨c.val / 17, h1⟩ ⟨c.val % 17, h2⟩ = c :=
  Fin.ext (by show c.val / 17 * 17 + c.val % 17 = c.val; omega)

/-- The head of a stacked row. -/
theorem hd_row (h : Fin 8) (b : Fin 128) : hd (row h b) = h :=
  Fin.ext (by have := b.isLt; show (128 * h.val + b.val) / 128 = h.val; omega)

/-- The query of a stacked row. -/
theorem bt_row (h : Fin 8) (b : Fin 128) : bt (row h b) = b :=
  Fin.ext (by have := b.isLt; show (128 * h.val + b.val) % 128 = b.val; omega)

variable (WP : Fin 128 → Fin 136 → ℝ) (BP : Fin 136 → ℝ)

/-- The weights of the shared layer followed by another. -/
def wcomp (W : Fin 136 → Fin 136 → ℝ) (d : Fin 128) (c : Fin 136) : ℝ := ∑ a, WP d a * W a c

/-- The bias of the shared layer followed by another. -/
def bcomp (W : Fin 136 → Fin 136 → ℝ) (B : Fin 136 → ℝ) (c : Fin 136) : ℝ := (∑ a, BP a * W a c) + B c

/-- The composed layer is the two layers one after the other. -/
theorem comp_layers (W : Fin 136 → Fin 136 → ℝ) (B : Fin 136 → ℝ) (x : Fin 128 → ℝ) (c : Fin 136) :
    (∑ d, x d * wcomp WP W d c) + bcomp BP W B c = affine (affine x WP BP) W B c :=
  compose_layers x WP BP (fun a => W a c) (B c)

variable (Wq Wk Wv : Fin 136 → Fin 136 → ℝ) (Bq Bk Bv : Fin 136 → ℝ) (f : Fin 128 → Fin 128 → ℝ)

/-- The folded query of a stacked row. -/
def foldQ (r : Fin 1024) (d : Fin 128) : ℝ :=
  ∑ a, maskedQuery f (wcomp WP Wq) (bcomp BP Wq Bq) headMask (hd r) (bt r) a * wcomp WP Wk d a

/-- The folded key bias of a stacked row. -/
def foldB (r : Fin 1024) : ℝ :=
  ∑ a, maskedQuery f (wcomp WP Wq) (bcomp BP Wq Bq) headMask (hd r) (bt r) a * bcomp BP Wk Bk a

/-- The reference's score of a head: query against key over √17. -/
def refScore (b : Fin 128) (h : Fin 8) (x : Fin 128 → ℝ) : ℝ :=
  (∑ t, affine (affine x WP BP) Wk Bk (col h t) * affine (affine (f b) WP BP) Wq Bq (col h t)) / √17

/-- The folded query scores a row of the memory as the reference's head does. -/
theorem score_eq (b : Fin 128) (h : Fin 8) (x : Fin 128 → ℝ) :
    score (foldQ WP BP Wq Wk Bq f (row h b)) (foldB WP BP Wq Wk Bq Bk f (row h b)) x = refScore WP BP Wq Wk Bq Bk f b h x := by
  simp only [score, foldQ, foldB, hd_row, bt_row]
  rw [fold_query]
  simp only [comp_layers, maskedQuery]
  rw [refScore, Finset.sum_div, ← sum_head h fun c => affine (affine x WP BP) Wk Bk c * affine (affine (f b) WP BP) Wq Bq c / √17]
  exact Finset.sum_congr rfl fun c _ => by rw [div_eq_mul_inv]; ring

/-- One column of a query's joined heads: the mean of the rows, projected and masked, is the mean of the projected rows at the column's head. -/
theorem column_eq {J : Type*} [Fintype J] [Nonempty J] (S : Fin 1024 → J → ℝ) (s : Fin 128 → Fin 8 → J → ℝ)
    (hs : ∀ h b j, S (row h b) j = s b h j) (NV : J → Fin 128 → ℝ) (M' : Fin 1024 → ℝ) (M : Fin 128 → Fin 8 → ℝ)
    (b : Fin 128) (c : Fin 136) (h1 : c.val / 17 < 8) (h2 : c.val % 17 < 17) :
    ∑ h, ((∑ k, ((∑ j, Real.exp (S (row h b) j - M' (row h b)) * NV j k) / ∑ j, Real.exp (S (row h b) j - M' (row h b))) * wcomp WP Wv k c)
        + bcomp BP Wv Bv c) * headMask h c
      = ∑ j, affine (affine (NV j) WP BP) Wv Bv (col ⟨c.val / 17, h1⟩ ⟨c.val % 17, h2⟩)
          * (Real.exp (s b ⟨c.val / 17, h1⟩ j - M b ⟨c.val / 17, h1⟩) / ∑ i, Real.exp (s b ⟨c.val / 17, h1⟩ i - M b ⟨c.val / 17, h1⟩)) := by
  have e : ∀ h : Fin 8, headMask h c = if (⟨c.val / 17, h1⟩ : Fin 8) = h then (1 : ℝ) else 0 := fun h => by
    simp only [headMask, Fin.ext_iff]
  rw [col_self]
  simp only [e]
  rw [pick_head (fun _ : Fin 136 => (⟨c.val / 17, h1⟩ : Fin 8))
    (fun h c => (∑ k, ((∑ j, Real.exp (S (row h b) j - M' (row h b)) * NV j k) / ∑ j, Real.exp (S (row h b) j - M' (row h b))) * wcomp WP Wv k c)
        + bcomp BP Wv Bv c) c]
  generalize (⟨c.val / 17, h1⟩ : Fin 8) = h
  simp only [hs]
  have e2 : ∀ k, (∑ j, Real.exp (s b h j - M' (row h b)) * NV j k) / (∑ j, Real.exp (s b h j - M' (row h b)))
      = ∑ j, Real.exp (s b h j - M b h) / (∑ i, Real.exp (s b h i - M b h)) * NV j k := fun k => softmax_shift _ _ _ _
  simp only [e2]
  rw [project_mean _ (softmax_sum _ _)]
  exact Finset.sum_congr rfl fun j _ => by rw [comp_layers, mul_comm]

/-- The composed output layers are the reference's two, whatever the last bias. -/
theorem output_eq (ctx : Fin 136 → ℝ) (WA : Fin 136 → Fin 136 → ℝ) (BA : Fin 136 → ℝ) (WO : Fin 136 → Fin 128 → ℝ) (d : Fin 128) (v : EReal) :
    ((∑ c, ctx c * ∑ a, WA c a * WO a d : ℝ) : EReal) + (((∑ a, BA a * WO a d : ℝ) : EReal) + v)
      = ((∑ a, affine ctx WA BA a * WO a d : ℝ) : EReal) + v := by
  rw [← add_assoc, ← EReal.coe_add]
  have h := compose_layers ctx WA BA (fun a => WO a d) 0
  simp only [add_zero] at h
  rw [h]
  rfl

end Cert.Bridge

end
-- ==== Proof.RefOut.lean ====
/- The reference's result over the real numbers: the heads attend over the memory with the evicted rows replaced, and two affine layers follow. -/
module

public import proofs.«01_k».proof.Proof.SlotRows
public import proofs.«01_k».proof.Proof.RefGate
public import proofs.«01_k».proof.Proof.RefAttend
public import proofs.«01_k».proof.Proof.SameMean

@[expose] public section

set_option maxRecDepth 16384

noncomputable section

namespace Cert.RefValue

open Cert.ReferenceIdeal Cert.ReferenceIdeal.Read Cert.ReferenceIdeal.Gen Cert.Model Cert.Slots Cert.Bridge
open Idealize.ShloMosaic Idealize.ShloMosaic.TcCoe

variable {x0 x1 : Vec Ideal S128x128 .f32} {x2 x3 : Vec Ideal S65536x128 .f32} {x4 x5 : Vec Ideal S65536 .f32}
variable {x6 x8 : Vec Ideal S128x128 .f32} {x7 x9 : Vec Ideal S128 .f32} {x10 : Vec Ideal S128x136 .f32} {x11 : Vec Ideal S136 .f32}
variable {x12 x14 x16 x18 : Vec Ideal S136x136 .f32} {x13 x15 x17 x19 : Vec Ideal S136 .f32} {x20 : Vec Ideal S136x128 .f32} {x21 : Vec Ideal S128 .f32}
variable {f WKE WVE : Fin 128 → Fin 128 → ℝ} {BKE BVE : Fin 128 → ℝ} {K V : Fin 65536 → Fin 128 → ℝ} {WP : Fin 128 → Fin 136 → ℝ} {BP : Fin 136 → ℝ}
variable {Wq Wk Wv WA : Fin 136 → Fin 136 → ℝ} {Bq Bk Bv BA : Fin 136 → ℝ} {WO : Fin 136 → Fin 128 → ℝ}
variable {σ : Fin 128 → Fin 65536}

/-- The encoder's row where the bit is set, the evicted row elsewhere. -/
def written (P : Fin 128 → Prop) [DecidablePred P] (f W : Fin 128 → Fin 128 → ℝ) (B : Fin 128 → ℝ) (old : Fin 128 → Fin 128 → ℝ) (b k : Fin 128) : ℝ :=
  if P b then (∑ j, f b j * W j k) + B k else old b k

/-- The new keys. -/
theorem keys_new (P : Fin 128 → Prop) [DecidablePred P] (hσ : ∀ b : Fin 128, val_main_indices (F := Ideal) x4 x5 (ix1 b) = BitVec.ofNat 32 (σ b).val)
    (hinj : Function.Injective σ) (h0 : ∀ i j, x0 (ix2 i j) = (f i j : EReal)) (h2 : ∀ i j, x2 (ix2 i j) = (K i j : EReal))
    (h6 : ∀ i j, x6 (ix2 i j) = (WKE i j : EReal)) (h7 : ∀ i, x7 (ix1 i) = (BKE i : EReal))
    (hP : ∀ b, val_main_v21 (F := Ideal) x0 x1 x2 (ix1 b) = BitVec.ofBool (decide (P b))) (i : Fin 65536) (k : Fin 128) :
    val_main_v46 (F := Ideal) x0 x1 x2 x4 x5 x6 x7 (ix2 i k)
      = (Function.extend σ (written P f WKE BKE fun b => K (σ b)) K i k : EReal) := by
  unfold val_main_v46
  by_cases h : ∃ b, σ b = i
  · obtain ⟨b, rfl⟩ := h
    rw [hinj.extend_apply]
    exact (put_hit hinj x2 _ _ (put_k_col hσ) b k).trans
      (newKey_at h0 hP h6 h7 (O := fun b => K (σ b)) (fun b k => (take_k x2 hσ b k).trans (h2 _ _)) b k)
  · rw [Function.extend_apply' _ _ _ h]
    exact (put_miss x2 _ _ (put_k_col hσ) i k fun b hb => h ⟨b, hb⟩).trans (h2 _ _)

/-- The new values. -/
theorem values_new (P : Fin 128 → Prop) [DecidablePred P] (hσ : ∀ b : Fin 128, val_main_indices (F := Ideal) x4 x5 (ix1 b) = BitVec.ofNat 32 (σ b).val)
    (hinj : Function.Injective σ) (h0 : ∀ i j, x0 (ix2 i j) = (f i j : EReal)) (h3 : ∀ i j, x3 (ix2 i j) = (V i j : EReal))
    (h8 : ∀ i j, x8 (ix2 i j) = (WVE i j : EReal)) (h9 : ∀ i, x9 (ix1 i) = (BVE i : EReal))
    (hP : ∀ b, val_main_v21 (F := Ideal) x0 x1 x2 (ix1 b) = BitVec.ofBool (decide (P b))) (i : Fin 65536) (k : Fin 128) :
    val_main_v53 (F := Ideal) x0 x1 x2 x3 x4 x5 x8 x9 (ix2 i k)
      = (Function.extend σ (written P f WVE BVE fun b => V (σ b)) V i k : EReal) := by
  unfold val_main_v53
  by_cases h : ∃ b, σ b = i
  · obtain ⟨b, rfl⟩ := h
    rw [hinj.extend_apply]
    exact (put_hit hinj x3 _ _ (put_v_col hσ) b k).trans
      (newValue_at h0 hP h8 h9 (O := fun b => V (σ b)) (fun b k => (take_v x3 hσ b k).trans (h3 _ _)) b k)
  · rw [Function.extend_apply' _ _ _ h]
    exact (put_miss x3 _ _ (put_v_col hσ) i k fun b hb => h ⟨b, hb⟩).trans (h3 _ _)

/-- A column of the joined heads: the softmax mean of the projected values at the column's head. -/
def joined {J : Type} [Fintype J] (WP : Fin 128 → Fin 136 → ℝ) (BP : Fin 136 → ℝ) (Wq Wk Wv : Fin 136 → Fin 136 → ℝ) (Bq Bk Bv : Fin 136 → ℝ) (f : Fin 128 → Fin 128 → ℝ)
    (NK NV : J → Fin 128 → ℝ) (M : Fin 128 → Fin 8 → ℝ) (b : Fin 128) (h : Fin 8) (t : Fin 17) : ℝ :=
  ∑ j, affine (affine (NV j) WP BP) Wv Bv (col h t)
    * (Real.exp (refScore WP BP Wq Wk Bq Bk f b h (NK j) - M b h) / ∑ i, Real.exp (refScore WP BP Wq Wk Bq Bk f b h (NK i) - M b h))

/-- The kernel's masked column is the joined heads' column. -/
theorem column_joined {J : Type} [Fintype J] [Nonempty J] (WP : Fin 128 → Fin 136 → ℝ) (BP : Fin 136 → ℝ) (Wq Wk Wv : Fin 136 → Fin 136 → ℝ) (Bq Bk Bv : Fin 136 → ℝ)
    (f : Fin 128 → Fin 128 → ℝ) (NK NV : J → Fin 128 → ℝ) (M' : Fin 1024 → ℝ) (M : Fin 128 → Fin 8 → ℝ) (b : Fin 128) (c : Fin 136)
    (h1 : c.val / 17 < 8) (h2 : c.val % 17 < 17) :
    ∑ h, ((∑ e, ((∑ j, Real.exp (Cert.KernelIdeal.Hand.score (foldQ WP BP Wq Wk Bq f (Cert.KernelIdeal.Hand.row h b)) (foldB WP BP Wq Wk Bq Bk f (Cert.KernelIdeal.Hand.row h b)) (NK j)
              - M' (Cert.KernelIdeal.Hand.row h b)) * NV j e)
          / ∑ j, Real.exp (Cert.KernelIdeal.Hand.score (foldQ WP BP Wq Wk Bq f (Cert.KernelIdeal.Hand.row h b)) (foldB WP BP Wq Wk Bq Bk f (Cert.KernelIdeal.Hand.row h b)) (NK j)
              - M' (Cert.KernelIdeal.Hand.row h b))) * wcomp WP Wv e c) + bcomp BP Wv Bv c) * headMask h c
      = joined WP BP Wq Wk Wv Bq Bk Bv f NK NV M b ⟨c.val / 17, h1⟩ ⟨c.val % 17, h2⟩ :=
  column_eq WP BP Wv Bv (fun r j => Cert.KernelIdeal.Hand.score (foldQ WP BP Wq Wk Bq f r) (foldB WP BP Wq Wk Bq Bk f r) (NK j))
    (fun b h j => refScore WP BP Wq Wk Bq Bk f b h (NK j)) (fun h b j => score_eq WP BP Wq Wk Bq Bk f b h (NK j)) NV M' M b c h1 h2

/-- The reference's result. -/
theorem reference_at {NK NV : Fin 65536 → Fin 128 → ℝ}
    (h0 : ∀ i j, x0 (ix2 i j) = (f i j : EReal)) (h46 : ∀ i j, val_main_v46 (F := Ideal) x0 x1 x2 x4 x5 x6 x7 (ix2 i j) = (NK i j : EReal))
    (h53 : ∀ i j, val_main_v53 (F := Ideal) x0 x1 x2 x3 x4 x5 x8 x9 (ix2 i j) = (NV i j : EReal))
    (h10 : ∀ i j, x10 (ix2 i j) = (WP i j : EReal)) (h11 : ∀ i, x11 (ix1 i) = (BP i : EReal))
    (h12 : ∀ i j, x12 (ix2 i j) = (Wq i j : EReal)) (h13 : ∀ i, x13 (ix1 i) = (Bq i : EReal))
    (h14 : ∀ i j, x14 (ix2 i j) = (Wk i j : EReal)) (h15 : ∀ i, x15 (ix1 i) = (Bk i : EReal))
    (h16 : ∀ i j, x16 (ix2 i j) = (Wv i j : EReal)) (h17 : ∀ i, x17 (ix1 i) = (Bv i : EReal))
    (h18 : ∀ i j, x18 (ix2 i j) = (WA i j : EReal)) (h19 : ∀ i, x19 (ix1 i) = (BA i : EReal)) (h20 : ∀ i j, x20 (ix2 i j) = (WO i j : EReal)) :
    ∃ M : Fin 128 → Fin 8 → ℝ, ∀ b d, val_main_v108 (F := Ideal) x0 x1 x2 x3 x4 x5 x6 x7 x8 x9 x10 x11 x12 x13 x14 x15 x16 x17 x18 x19 x20 x21 (ix2 b d)
      = ((∑ a, affine (fun c : Fin 136 => joined WP BP Wq Wk Wv Bq Bk Bv f NK NV M b ⟨c.val / 17, by have := c.isLt; omega⟩ ⟨c.val % 17, by omega⟩) WA BA a * WO a d : ℝ) : EReal)
        + x21 (ix1 d) := by
  have hq := queries_at h0 h10 h11 h12 h13
  have hk := keys_at h46 h10 h11 h14 h15
  have hv := values_at h53 h10 h11 h16 h17
  have hs := scores_at (q := fun b h t => affine (affine (f b) WP BP) Wq Bq (col h t)) (k := fun j h t => affine (affine (NK j) WP BP) Wk Bk (col h t)) hq hk
  obtain ⟨M, hM⟩ := top_at (s := fun b h j => refScore WP BP Wq Wk Bq Bk f b h (NK j)) hs
  refine ⟨M, fun b d => ?_⟩
  exact output_at (ctx := joined WP BP Wq Wk Wv Bq Bk Bv f NK NV M)
    (context_at (s := fun b h j => refScore WP BP Wq Wk Bq Bk f b h (NK j)) (v := fun j h t => affine (affine (NV j) WP BP) Wv Bv (col h t)) hs hM hv) h18 h19 h20 b d

end Cert.RefValue

end
-- ==== Proof.KernelIdealResult.lean ====
/- The kernel's result over the real numbers: the streamed sums over the old memory, corrected to the new memory, through the composed layers. -/
module

public import proofs.«01_k».proof.Proof.KernelIdealStream
public import proofs.«01_k».proof.Proof.KernelIdealOut
public import proofs.«01_k».proof.Proof.KernelIdealOperands
public import proofs.«01_k».proof.Proof.KernelIdealTaken
public import proofs.«01_k».proof.Proof.Gate
public import proofs.«01_k».proof.Proof.RefOut

@[expose] public section

set_option maxRecDepth 16384

noncomputable section

namespace Cert.KernelIdeal.Hand

open Cert.KernelIdeal Cert.KernelIdeal.Gen Cert.Model Cert.Bridge
open Cert.RefValue (written affine joined)
open Idealize.ShloMosaic Idealize.ShloMosaic.TcCoe Idealize.SL.Sem

variable (m : (ℓ : Loc nD τ sig) → Buf (Elt Ideal) ℓ) (c : Dev nD)
variable {f WKE WVE : Fin 128 → Fin 128 → ℝ} {BKE BVE : Fin 128 → ℝ} {K V' : Fin 65536 → Fin 128 → ℝ} {WP : Fin 128 → Fin 136 → ℝ} {BP : Fin 136 → ℝ}
variable {Wq Wk Wv WA : Fin 136 → Fin 136 → ℝ} {Bq Bk Bv BA : Fin 136 → ℝ} {WO : Fin 136 → Fin 128 → ℝ}
variable {σ : Fin 128 → Fin 65536}

/-- The kernel's bit, from the least gap the stream found. -/
theorem bit_of_gap {x0 x1 : Vec Ideal S128x128 .f32} {d : Vec Ideal S128x1 .f32} (h0 : ∀ i j, x0 (ix2 i j) = (f i j : EReal)) (i : Fin 128) (δ : ℝ)
    (hd : d (ix2 i 0) = (δ : EReal)) :
    k0_pay10 (F := Ideal) x0 x1 d (ix2 i 0) = BitVec.ofBool (decide (((1 / 100 : ℝ) : EReal) <
      (∑ k, x1 (ix2 i k) * x1 (ix2 i k)) * ((max 0 ((∑ e, f i e * f i e) + δ) : ℝ) : EReal))) := by
  have e : max ((∑ k, x0 (ix2 i k) * x0 (ix2 i k)) + d (ix2 i 0)) (0 : EReal) = ((max 0 ((∑ e, f i e * f i e) + δ) : ℝ) : EReal) := by
    simp only [h0, hd, ← EReal.coe_mul, ← coe_sum, ← EReal.coe_add]
    rw [← coe_max, max_comm]
    rfl
  rw [pay10_at, e]

/-- The state after the last step, over all the rows. -/
theorem last_holds {Q : Fin 1024 → Fin 128 → ℝ} {B : Fin 1024 → ℝ} (x : Scr Ideal) (h : Holds f K V' Q B 128 x) :
    (∀ r d, x.qk (ix2 r d) = (Q r d : EReal)) ∧ (∀ r, x.qbk (ix2 r 0) = (B r : EReal)) ∧
    ∃ μ : Fin 1024 → ℝ, (∀ r, x.mx (ix2 r 0) = (μ r : EReal))
      ∧ (∀ r, x.z (ix2 r 0) = ((∑ j, Real.exp (score (Q r) (B r) (K j) - μ r) : ℝ) : EReal))
      ∧ (∀ r d, x.s (ix2 r d) = ((∑ j, Real.exp (score (Q r) (B r) (K j) - μ r) * V' j d : ℝ) : EReal))
      ∧ (∀ b, x.d (ix2 b 0) = Finset.univ.inf fun j => ((gap (f b) (K j) : ℝ) : EReal)) := by
  rw [Holds, upto_all 65536 512 128 (by norm_num)] at h
  exact h

/-- The kernel's result. -/
theorem result_at (P : Fin 128 → Prop) [DecidablePred P]
    (hσ : ∀ b : Fin 128, Cert.ReferenceIdeal.Read.val_main_indices (F := Ideal) (arr m c main_arg4) (arr m c main_arg5) (ix1 b) = BitVec.ofNat 32 (σ b).val)
    (hinj : Function.Injective σ)
    (h0 : ∀ i j, arr m c main_arg0 (ix2 i j) = (f i j : EReal)) (h2 : ∀ i j, arr m c main_arg2 (ix2 i j) = (K i j : EReal))
    (h3 : ∀ i j, arr m c main_arg3 (ix2 i j) = (V' i j : EReal))
    (h6 : ∀ i j, arr m c main_arg6 (ix2 i j) = (WKE i j : EReal)) (h7 : ∀ i, arr m c main_arg7 (ix1 i) = (BKE i : EReal))
    (h8 : ∀ i j, arr m c main_arg8 (ix2 i j) = (WVE i j : EReal)) (h9 : ∀ i, arr m c main_arg9 (ix1 i) = (BVE i : EReal))
    (h10 : ∀ i j, arr m c main_arg10 (ix2 i j) = (WP i j : EReal)) (h11 : ∀ i, arr m c main_arg11 (ix1 i) = (BP i : EReal))
    (h12 : ∀ i j, arr m c main_arg12 (ix2 i j) = (Wq i j : EReal)) (h13 : ∀ i, arr m c main_arg13 (ix1 i) = (Bq i : EReal))
    (h14 : ∀ i j, arr m c main_arg14 (ix2 i j) = (Wk i j : EReal)) (h15 : ∀ i, arr m c main_arg15 (ix1 i) = (Bk i : EReal))
    (h16 : ∀ i j, arr m c main_arg16 (ix2 i j) = (Wv i j : EReal)) (h17 : ∀ i, arr m c main_arg17 (ix1 i) = (Bv i : EReal))
    (h18 : ∀ i j, arr m c main_arg18 (ix2 i j) = (WA i j : EReal)) (h19 : ∀ i, arr m c main_arg19 (ix1 i) = (BA i : EReal))
    (h20 : ∀ i j, arr m c main_arg20 (ix2 i j) = (WO i j : EReal))
    (hP : ∀ (d : Vec Ideal S128x1 .f32), (∀ b, d (ix2 b 0) = Finset.univ.inf fun j => ((gap (f b) (K j) : ℝ) : EReal)) →
      ∀ i, k0_pay10 (F := Ideal) (arr m c main_arg0) (arr m c main_arg1) d (ix2 i 0) = BitVec.ofBool (decide (P i)))
    (M : Fin 128 → Fin 8 → ℝ) (b k : Fin 128) :
    result m c (ix2 b k)
      = ((∑ a, affine (fun c : Fin 136 => joined WP BP Wq Wk Wv Bq Bk Bv f (Function.extend σ (written P f WKE BKE fun b => K (σ b)) K)
            (Function.extend σ (written P f WVE BVE fun b => V' (σ b)) V') M b ⟨c.val / 17, by have := c.isLt; omega⟩ ⟨c.val % 17, by omega⟩) WA BA a * WO a k : ℝ) : EReal)
        + arr m c main_arg21 (ix1 k) := by
  have e6 : ∀ i j, V m c main_v6 (ix2 i j) = ((wcomp WP Wq i j : ℝ) : EReal) := fun i j => (congrFun (V_v6 m c) _).trans (weights_at h10 h12 i j)
  have e9 : ∀ j, V m c main_v9 (ix2 0 j) = ((bcomp BP Wq Bq j : ℝ) : EReal) := fun j => (congrFun (V_v9 m c) _).trans (bias_at h11 h12 h13 j)
  have e10 : ∀ i j, V m c main_v10 (ix2 i j) = ((wcomp WP Wk i j : ℝ) : EReal) := fun i j => (congrFun (V_v10 m c) _).trans (weights_at h10 h14 i j)
  have e13 : ∀ j, V m c main_v13 (ix2 0 j) = ((bcomp BP Wk Bk j : ℝ) : EReal) := fun j => (congrFun (V_v13 m c) _).trans (bias_at h11 h14 h15 j)
  have e14 : ∀ i j, V m c main_v14 (ix2 i j) = ((wcomp WP Wv i j : ℝ) : EReal) := fun i j => (congrFun (V_v14 m c) _).trans (weights_at h10 h16 i j)
  have e17 : ∀ j, V m c main_v17 (ix2 0 j) = ((bcomp BP Wv Bv j : ℝ) : EReal) := fun j => (congrFun (V_v17 m c) _).trans (bias_at h11 h16 h17 j)
  have e18 : ∀ i j, V m c main_v18 (ix2 i j) = ((∑ a, WA i a * WO a j : ℝ) : EReal) := fun i j => (congrFun (V_v18 m c) _).trans (outWeights_at h18 h20 i j)
  have e21 : ∀ j, V m c main_v21 (ix2 0 j) = ((∑ a, BA a * WO a j : ℝ) : EReal) + arr m c main_arg21 (ix1 j) := fun j =>
    (congrFun (V_v21 m c) _).trans (outBias_at h19 h20 j)
  have e29 : ∀ i j, V m c main_v29 (ix2 i j) = ((headMask i j : ℝ) : EReal) := fun i j => (congrFun (V_v29 m c) _).trans (mask_at i j)
  have e30 : ∀ j, V m c main_v30 (ix2 0 j) = ((BKE j : ℝ) : EReal) := fun j => ((congrFun (V_v30 m c) _).trans (row_at j)).trans (h7 j)
  have e31 : ∀ j, V m c main_v31 (ix2 0 j) = ((BVE j : ℝ) : EReal) := fun j => ((congrFun (V_v31 m c) _).trans (row_at j)).trans (h9 j)
  have e4 : ∀ i j, V m c main_v4 (ix2 i j) = ((K (σ i) j : ℝ) : EReal) := fun i j =>
    ((congrFun (V_v4 m c) _).trans (Cert.Slots.take_k _ hσ i j)).trans (h2 _ _)
  have e5 : ∀ i j, V m c main_v5 (ix2 i j) = ((V' (σ i) j : ℝ) : EReal) := fun i j =>
    ((congrFun (V_v5 m c) _).trans (Cert.Slots.take_v _ hσ i j)).trans (h3 _ _)
  have hi := init_holds (K := K) (V' := V') m c h0 e6 e9 e10 e13 e29 (pt 0)
  have ht : (pt 127).val = 127 := rfl
  have hl := last_holds _ (scrAt_holds m c h0 h2 h3 hi 127 (by norm_num))
  obtain ⟨hq, hb, μ, hm, hz, hs, hd⟩ := hl
  rw [result_eq, outAt, ht]
  rw [iblk0, iblk1, iblk4, iblk5, iblk10, iblk11, iblk12, iblk13, iblk14, iblk15, iblk16, iblk17, iblk18]
  have hK : ∀ b, Function.extend σ (written P f WKE BKE fun b => K (σ b)) K (σ b) = written P f WKE BKE (fun b => K (σ b)) b := fun b => hinj.extend_apply _ _ b
  have hV : ∀ b, Function.extend σ (written P f WVE BVE fun b => V' (σ b)) V' (σ b) = written P f WVE BVE (fun b => V' (σ b)) b := fun b => hinj.extend_apply _ _ b
  have hK' : ∀ j, (∀ b, σ b ≠ j) → Function.extend σ (written P f WKE BKE fun b => K (σ b)) K j = K j :=
    fun j hj => Function.extend_apply' _ _ _ fun ⟨b, hb⟩ => hj b hb
  have hV' : ∀ j, (∀ b, σ b ≠ j) → Function.extend σ (written P f WVE BVE fun b => V' (σ b)) V' j = V' j :=
    fun j hj => Function.extend_apply' _ _ _ fun ⟨b, hb⟩ => hj b hb
  generalize Function.extend σ (written P f WKE BKE fun b => K (σ b)) K = NK at hK hK' ⊢
  generalize Function.extend σ (written P f WVE BVE fun b => V' (σ b)) V' = NV at hV hV' ⊢
  obtain ⟨M', h⟩ := outBlock_at (x17 := V m c main_v21) P (hP _ hd) σ hinj K V' NK NV
    (fun b k => congrFun (hK b) k) (fun b k => congrFun (hV b) k) hK' hV'
    h0 e4 e5 h6 e30 h8 e31 e14 e17 e18 e29 hq hb hm hz hs
  refine (h b k).trans ?_
  rw [e21, ← output_eq]
  refine congrArg (fun y : ℝ => (y : EReal) + (((∑ a, BA a * WO a k : ℝ) : EReal) + arr m c main_arg21 (ix1 k))) ?_
  refine Finset.sum_congr rfl fun a _ => congrArg (· * _) ?_
  exact Cert.RefValue.column_joined WP BP Wq Wk Wv Bq Bk Bv f _ _ M' M b a _ _

end Cert.KernelIdeal.Hand

end
-- ==== Proof.Finite.lean ====
/- What the precondition gives: the arrays that the attention multiplies and adds hold real numbers. -/
module

public import proofs.«01_k».proof.Pre_finite
public import proofs.«01_k».proof.Proof.Gen.Pre_finite
public import proofs.«01_k».proof.Proof.Reals
public import Idealize.ShloMosaic.Lib.ReduceAll
public import Idealize.ShloMosaic.Lib.Pointwise

@[expose] public section

set_option maxRecDepth 16384

noncomputable section

namespace Cert.Finite

open Cert.Pre_finite Cert.Model Idealize.ShloMosaic
open Cert.Pre_finite.Facts

/-- An array all of whose entries are real numbers. -/
def IsReal {s : Shape} (x : Vec Ideal s .f32) : Prop := ∃ r : s.Idx → ℝ, ∀ i, x i = (r i : EReal)

/-- A conjunction of two bits is one when both are. -/
theorem and_at (a b : IVec S_ 1) (i : S_.Idx) : andi a b i = 1#1 ↔ a i = 1#1 ∧ b i = 1#1 := by
  have h : ∀ p q : BitVec 1, IntOp.andi p q = 1#1 ↔ p = 1#1 ∧ q = 1#1 := by decide
  exact h _ _

/-- A number whose magnitude is below infinity is real. -/
theorem abs_lt_top (a : EReal) (h : FloatOps.cmpf (F := Ideal) (φ := .f32) .olt (FloatOps.hostAbsf (F := Ideal) (φ := .f32) a) (⊤ : EReal) = 1#1) : ∃ r : ℝ, a = (r : EReal) := by
  have h1 : BitVec.ofBool (decide (max a (-a) < (⊤ : EReal))) = 1#1 := h
  have h2 : max a (-a) < (⊤ : EReal) := by
    by_contra hn
    rw [decide_eq_false hn] at h1
    exact absurd h1 (by decide)
  induction a with
  | bot => simp at h2
  | coe r => exact ⟨r, rfl⟩
  | top => simp at h2

/-- Entries whose magnitudes are all below infinity are real numbers. -/
theorem real_of {s : Shape} {axes : List (Fin s.rank)} (x : Vec Ideal s .f32) (hb : S_.BroadcastsInDim s (![] : Fin 0 → Fin s.rank)) (hr : s.ReducesTo axes S_)
    (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) :
    IsReal x := by
  haveI : Subsingleton S_.Idx := ⟨fun a b => funext fun i => i.elim0⟩
  have hk : ∀ i, ∃ r : ℝ, x i = (r : EReal) := fun i => by
    have := Host.reduce_andi_all _ _ _ _ j h i
    refine abs_lt_top (x i) ?_
    rw [← bits_top]
    exact this
  choose r hr using hk
  exact ⟨r, hr⟩

/-- The precondition's arrays hold real numbers. -/
theorem reals (x0 : Vec Ideal S128x128 .f32) (x1 : Vec Ideal S128x128 .f32) (x2 : Vec Ideal S65536x128 .f32) (x3 : Vec Ideal S65536x128 .f32) (x4 : Vec Ideal S65536 .f32) (x5 : Vec Ideal S65536 .f32) (x6 : Vec Ideal S128x128 .f32) (x7 : Vec Ideal S128 .f32) (x8 : Vec Ideal S128x128 .f32) (x9 : Vec Ideal S128 .f32) (x10 : Vec Ideal S128x136 .f32) (x11 : Vec Ideal S136 .f32) (x12 : Vec Ideal S136x136 .f32) (x13 : Vec Ideal S136 .f32) (x14 : Vec Ideal S136x136 .f32) (x15 : Vec Ideal S136 .f32) (x16 : Vec Ideal S136x136 .f32) (x17 : Vec Ideal S136 .f32) (x18 : Vec Ideal S136x136 .f32) (x19 : Vec Ideal S136 .f32) (x20 : Vec Ideal S136x128 .f32) (x21 : Vec Ideal S128 .f32)
    (h : fn (F := Ideal) x0 x1 x2 x3 x4 x5 x6 x7 x8 x9 x10 x11 x12 x13 x14 x15 x16 x17 x18 x19 x20 x21 = fun _ => 1#1) :
    IsReal x0
      ∧ IsReal x2
      ∧ IsReal x3
      ∧ IsReal x6
      ∧ IsReal x7
      ∧ IsReal x8
      ∧ IsReal x9
      ∧ IsReal x10
      ∧ IsReal x11
      ∧ IsReal x12
      ∧ IsReal x13
      ∧ IsReal x14
      ∧ IsReal x15
      ∧ IsReal x16
      ∧ IsReal x17
      ∧ IsReal x18
      ∧ IsReal x19
      ∧ IsReal x20 := by
  have h' := congrFun h (Shape.Idx.first h_S_)
  simp only [fn, fn_part1, fn_part2, fn_part3, fn_part4, fn_part5, and_at] at h'
  obtain ⟨⟨⟨⟨⟨⟨⟨⟨⟨⟨⟨⟨⟨⟨⟨⟨⟨h0, h2⟩, h3⟩, h6⟩, h7⟩, h8⟩, h9⟩, h10⟩, h11⟩, h12⟩, h13⟩, h14⟩, h15⟩, h16⟩, h17⟩, h18⟩, h19⟩, h20⟩ := h'
  exact ⟨real_of x0 _ _ _ _ h0, real_of x2 _ _ _ _ h2, real_of x3 _ _ _ _ h3, real_of x6 _ _ _ _ h6, real_of x7 _ _ _ _ h7, real_of x8 _ _ _ _ h8, real_of x9 _ _ _ _ h9, real_of x10 _ _ _ _ h10, real_of x11 _ _ _ _ h11, real_of x12 _ _ _ _ h12, real_of x13 _ _ _ _ h13, real_of x14 _ _ _ _ h14, real_of x15 _ _ _ _ h15, real_of x16 _ _ _ _ h16, real_of x17 _ _ _ _ h17, real_of x18 _ _ _ _ h18, real_of x19 _ _ _ _ h19, real_of x20 _ _ _ _ h20⟩

end Cert.Finite

end
-- ==== Proof.Equation.lean ====
/- The equation of the results: on finite arrays the kernel's result is the reference's, entry by entry. -/
module

public import proofs.«01_k».proof.Defs
public import proofs.«01_k».proof.Proof.KernelIdealResult
public import proofs.«01_k».proof.Proof.Finite

@[expose] public section

set_option maxRecDepth 16384

noncomputable section

namespace Cert.Equation

open Cert.KernelIdeal Cert.KernelIdeal.Gen Cert.KernelIdeal.Hand Cert.Model Cert.Bridge Cert.Finite
open Cert.RefValue (written affine joined)
open Cert.ReferenceIdeal.Read
open Idealize.ShloMosaic Idealize.ShloMosaic.TcCoe Idealize.SL.Sem

/-- The gate: the gradient's square times the clipped least squared distance is over 1/100. -/
abbrev Gate (x1 : Vec Ideal S128x128 .f32) (f : Fin 128 → Fin 128 → ℝ) (δ : Fin 128 → ℝ) (b : Fin 128) : Prop :=
  ((1 / 100 : ℝ) : EReal) < (∑ k, x1 (ix2 b k) * x1 (ix2 b k)) * ((max 0 ((∑ d, f b d * f b d) + δ b) : ℝ) : EReal)

variable (m : (ℓ : Loc nD τ sig) → Buf (Elt Ideal) ℓ) (c : Dev nD)

/-- A result's entry, when the arrays hold the given real numbers. -/
theorem entry_eq {f WKE WVE : Fin 128 → Fin 128 → ℝ} {BKE BVE : Fin 128 → ℝ} {K V' : Fin 65536 → Fin 128 → ℝ} {WP : Fin 128 → Fin 136 → ℝ} {BP : Fin 136 → ℝ}
    {Wq Wk Wv WA : Fin 136 → Fin 136 → ℝ} {Bq Bk Bv BA : Fin 136 → ℝ} {WO : Fin 136 → Fin 128 → ℝ}
    (h0 : ∀ i j, arr m c main_arg0 (ix2 i j) = (f i j : EReal)) (h2 : ∀ i j, arr m c main_arg2 (ix2 i j) = (K i j : EReal))
    (h3 : ∀ i j, arr m c main_arg3 (ix2 i j) = (V' i j : EReal))
    (h6 : ∀ i j, arr m c main_arg6 (ix2 i j) = (WKE i j : EReal)) (h7 : ∀ i, arr m c main_arg7 (ix1 i) = (BKE i : EReal))
    (h8 : ∀ i j, arr m c main_arg8 (ix2 i j) = (WVE i j : EReal)) (h9 : ∀ i, arr m c main_arg9 (ix1 i) = (BVE i : EReal))
    (h10 : ∀ i j, arr m c main_arg10 (ix2 i j) = (WP i j : EReal)) (h11 : ∀ i, arr m c main_arg11 (ix1 i) = (BP i : EReal))
    (h12 : ∀ i j, arr m c main_arg12 (ix2 i j) = (Wq i j : EReal)) (h13 : ∀ i, arr m c main_arg13 (ix1 i) = (Bq i : EReal))
    (h14 : ∀ i j, arr m c main_arg14 (ix2 i j) = (Wk i j : EReal)) (h15 : ∀ i, arr m c main_arg15 (ix1 i) = (Bk i : EReal))
    (h16 : ∀ i j, arr m c main_arg16 (ix2 i j) = (Wv i j : EReal)) (h17 : ∀ i, arr m c main_arg17 (ix1 i) = (Bv i : EReal))
    (h18 : ∀ i j, arr m c main_arg18 (ix2 i j) = (WA i j : EReal)) (h19 : ∀ i, arr m c main_arg19 (ix1 i) = (BA i : EReal))
    (h20 : ∀ i j, arr m c main_arg20 (ix2 i j) = (WO i j : EReal)) (b k : Fin 128) :
    result m c (ix2 b k) = val_main_v108 (F := Ideal) (arr m c main_arg0) (arr m c main_arg1) (arr m c main_arg2) (arr m c main_arg3) (arr m c main_arg4)
      (arr m c main_arg5) (arr m c main_arg6) (arr m c main_arg7) (arr m c main_arg8) (arr m c main_arg9) (arr m c main_arg10) (arr m c main_arg11)
      (arr m c main_arg12) (arr m c main_arg13) (arr m c main_arg14) (arr m c main_arg15) (arr m c main_arg16) (arr m c main_arg17) (arr m c main_arg18)
      (arr m c main_arg19) (arr m c main_arg20) (arr m c main_arg21) (ix2 b k) := by
  obtain ⟨σ, hinj, hσ⟩ := Cert.Slots.slots (arr m c main_arg4) (arr m c main_arg5)
  have hδ := fun b : Fin 128 => inf_real (fun j => gap (f b) (K j)) (∑ d, f b d * f b d)
  choose δ h1δ h2δ using hδ
  have hP : ∀ b, val_main_v21 (F := Ideal) (arr m c main_arg0) (arr m c main_arg1) (arr m c main_arg2) (ix1 b) = BitVec.ofBool (decide (Gate (arr m c main_arg1) f δ b)) :=
    fun b => Cert.RefValue.bit_at h0 h2 b (δ b) (h2δ b)
  have hK := Cert.RefValue.keys_new (Gate (arr m c main_arg1) f δ) hσ hinj h0 h2 h6 h7 hP
  have hV := Cert.RefValue.values_new (Gate (arr m c main_arg1) f δ) hσ hinj h0 h3 h8 h9 hP
  obtain ⟨M, hM⟩ := Cert.RefValue.reference_at (x21 := arr m c main_arg21) h0 hK hV h10 h11 h12 h13 h14 h15 h16 h17 h18 h19 h20
  rw [hM b k]
  exact result_at m c (Gate (arr m c main_arg1) f δ) hσ hinj h0 h2 h3 h6 h7 h8 h9 h10 h11 h12 h13 h14 h15 h16 h17 h18 h19 h20
    (fun d hd i => bit_of_gap h0 i (δ i) ((hd i).trans (h1δ i))) M b k

/-- The two results are equal on finite arrays. -/
theorem result_eq_reference
    (h : Cert.Pre_finite.fn (F := Ideal) (arr m c main_arg0) (arr m c main_arg1) (arr m c main_arg2) (arr m c main_arg3) (arr m c main_arg4)
      (arr m c main_arg5) (arr m c main_arg6) (arr m c main_arg7) (arr m c main_arg8) (arr m c main_arg9) (arr m c main_arg10) (arr m c main_arg11)
      (arr m c main_arg12) (arr m c main_arg13) (arr m c main_arg14) (arr m c main_arg15) (arr m c main_arg16) (arr m c main_arg17) (arr m c main_arg18)
      (arr m c main_arg19) (arr m c main_arg20) (arr m c main_arg21) = fun _ => 1#1) :
    result m c = val_main_v108 (F := Ideal) (arr m c main_arg0) (arr m c main_arg1) (arr m c main_arg2) (arr m c main_arg3) (arr m c main_arg4)
      (arr m c main_arg5) (arr m c main_arg6) (arr m c main_arg7) (arr m c main_arg8) (arr m c main_arg9) (arr m c main_arg10) (arr m c main_arg11)
      (arr m c main_arg12) (arr m c main_arg13) (arr m c main_arg14) (arr m c main_arg15) (arr m c main_arg16) (arr m c main_arg17) (arr m c main_arg18)
      (arr m c main_arg19) (arr m c main_arg20) (arr m c main_arg21) := by
  obtain ⟨⟨a0, h0⟩, ⟨a2, h2⟩, ⟨a3, h3⟩, ⟨a6, h6⟩, ⟨a7, h7⟩, ⟨a8, h8⟩, ⟨a9, h9⟩, ⟨a10, h10⟩, ⟨a11, h11⟩, ⟨a12, h12⟩, ⟨a13, h13⟩, ⟨a14, h14⟩, ⟨a15, h15⟩,
    ⟨a16, h16⟩, ⟨a17, h17⟩, ⟨a18, h18⟩, ⟨a19, h19⟩, ⟨a20, h20⟩⟩ := reals _ _ _ _ _ _ _ _ _ _ _ _ _ _ _ _ _ _ _ _ _ _ h
  funext i
  obtain ⟨b, k, rfl⟩ : ∃ b k : Fin 128, i = ix2 b k := ⟨i 0, i 1, eq_ix2 i⟩
  exact entry_eq m c (f := fun i j => a0 (ix2 i j)) (K := fun i j => a2 (ix2 i j)) (V' := fun i j => a3 (ix2 i j)) (WKE := fun i j => a6 (ix2 i j)) (BKE := fun i => a7 (ix1 i))
    (WVE := fun i j => a8 (ix2 i j)) (BVE := fun i => a9 (ix1 i)) (WP := fun i j => a10 (ix2 i j)) (BP := fun i => a11 (ix1 i))
    (Wq := fun i j => a12 (ix2 i j)) (Bq := fun i => a13 (ix1 i)) (Wk := fun i j => a14 (ix2 i j)) (Bk := fun i => a15 (ix1 i))
    (Wv := fun i j => a16 (ix2 i j)) (Bv := fun i => a17 (ix1 i)) (WA := fun i j => a18 (ix2 i j)) (BA := fun i => a19 (ix1 i)) (WO := fun i j => a20 (ix2 i j))
    (fun _ _ => h0 _) (fun _ _ => h2 _) (fun _ _ => h3 _) (fun _ _ => h6 _) (fun _ => h7 _) (fun _ _ => h8 _) (fun _ => h9 _) (fun _ _ => h10 _) (fun _ => h11 _)
    (fun _ _ => h12 _) (fun _ => h13 _) (fun _ _ => h14 _) (fun _ => h15 _) (fun _ _ => h16 _) (fun _ => h17 _) (fun _ _ => h18 _) (fun _ => h19 _) (fun _ _ => h20 _) b k

end Cert.Equation

end
-- ==== Proof.lean ====
/- The claim: the frames, the named constants and the equation of the results, assembled. -/
module

public import proofs.«01_k».proof.Defs
public import proofs.«01_k».proof.Proof.KernelFrame
public import proofs.«01_k».proof.Proof.KernelIdealFrame
public import proofs.«01_k».proof.Proof.Gen.ReferenceIdeal.Run
public import proofs.«01_k».proof.Proof.Gen.Reference.Run
public import proofs.«01_k».proof.Proof.Gen.Kernel
public import proofs.«01_k».proof.Proof.Gen.KernelIdeal
public import proofs.«01_k».proof.Proof.Gen.ReferenceIdeal
public import proofs.«01_k».proof.Proof.Gen.Reference
public import Idealize.ShloMosaic.Adequacy
public import Idealize.ShloMosaic.PureOps.IdealRules
public import Idealize.ShloMosaic.Init
public import proofs.«01_k».proof.Proof.Gen.Pre_finite
public import proofs.«01_k».proof.Proof.Equation

@[expose] public section

noncomputable section

namespace Cert.Proof

open Idealize.ShloMosaic Idealize.SL.Sem

/-- The rounded kernel leaves its arguments unchanged and its counters at zero. -/
theorem frame_kernel : Cert.quiescent_Kernel := fun m ρ _ => Cert.Kernel.Hand.frame m ρ

/-- The idealized kernel leaves its arguments unchanged and its counters at zero. -/
theorem frame_ideal : Cert.quiescent_KernelIdeal := fun m ρ _ => Cert.KernelIdeal.Hand.frame m ρ

/-- The idealized reference leaves its arguments unchanged and its counters at zero. -/
theorem frame_reference_ideal : Cert.quiescent_ReferenceIdeal := fun m ρ _ =>
  (θ_run _ _ _).mono (fun r h => ⟨fun c => (h c).2, Idealize.ShloMosaic.sem_eq_zero_of_no_sems (by decide) r.2⟩) (Cert.ReferenceIdeal.Value.run m ρ)

/-- The rounded reference leaves its arguments unchanged and its counters at zero. -/
theorem frame_reference : Cert.quiescent_Reference := fun m ρ _ =>
  (θ_run _ _ _).mono (fun r h => ⟨fun c => (h c).2, Idealize.ShloMosaic.sem_eq_zero_of_no_sems (by decide) r.2⟩) (Cert.Reference.Value.run m ρ)

/-- The named constants of the kernel: each stands for the number its name gives. -/
theorem constants_kernel : Cert.preserves_Kernel_KernelIdeal :=
  ⟨IdealRules.named_const.statement Cert.KernelIdeal.κ "scale" .f32 0x3E785B42#32 _ rfl,
    IdealRules.named_const.statement Cert.KernelIdeal.κ "far" .f32 0x7149F2CA#32 _ rfl,
    IdealRules.named_const.statement Cert.KernelIdeal.κ "thresh_sq" .f32 0x3C23D70A#32 _ rfl⟩

/-- The idealized kernel and the idealized reference leave equal results, on finite arrays. -/
theorem equal_results : Cert.algebraic_KernelIdeal_ReferenceIdeal_pre_finite := fun m g m' g' hpre hargs =>
  ⟨fun c => Cert.KernelIdeal.Hand.result m c,
    (θ_run _ _ _).mono (fun r h => h.1) (Cert.KernelIdeal.Hand.run m g),
    (θ_run _ _ _).mono (fun r h c => ⟨(h c).1.trans (by
      obtain ⟨e0, e1, e2, e3, e4, e5, e6, e7, e8, e9, e10, e11, e12, e13, e14, e15, e16, e17, e18, e19, e20, e21⟩ := hargs c
      rw [Cert.ReferenceIdeal.Read.val_main_v108_eq, e0, e1, e2, e3, e4, e5, e6, e7, e8, e9, e10, e11, e12, e13, e14, e15, e16, e17, e18, e19, e20, e21]
      exact (Cert.Equation.result_eq_reference m c (hpre c)).symm), (h c).2⟩) (Cert.ReferenceIdeal.Value.run m' g')⟩

/-- The whole claim. -/
theorem claim : Cert.Claim :=
  ⟨Cert.Kernel.Gen.facts, Cert.KernelIdeal.Gen.facts, Cert.ReferenceIdeal.Gen.facts, Cert.Reference.Gen.facts, Cert.Pre_finite.Gen.facts,
    frame_kernel, frame_ideal, fun m ρ _ => frame_ideal m ρ trivial, frame_reference_ideal, fun m ρ _ => frame_reference_ideal m ρ trivial, frame_reference, constants_kernel, trivial, equal_results⟩

end Cert.Proof

end
